-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_bins [hPre_even_bins : Cert.Pre_even_bins.Facts] (m : (ℓ : Loc Cert.KernelIdeal.nD Cert.KernelIdeal.τ Cert.KernelIdeal.sig) → Buf (Elt Ideal) ℓ) : Prop :=
  ∀ c : Dev Cert.KernelIdeal.nD,
    (Cert.Pre_even_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_bins [hPre_even_bins : Cert.Pre_even_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_even_bins [hKernelIdeal : Cert.KernelIdeal.Facts] [hPre_even_bins : Cert.Pre_even_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_bins m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_even_bins [hReferenceIdeal : Cert.ReferenceIdeal.Facts] [hPre_even_bins : Cert.Pre_even_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_even_bins [hKernelIdeal : Cert.KernelIdeal.Facts] [hReferenceIdeal : Cert.ReferenceIdeal.Facts] [hPre_even_bins : Cert.Pre_even_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_even_bins : Cert.Pre_even_bins.Facts),
    quiescent_Kernel (hKernel := hKernel)
    ∧ quiescent_KernelIdeal (hKernelIdeal := hKernelIdeal)
    ∧ quiescent_KernelIdeal_pre_even_bins (hKernelIdeal := hKernelIdeal) (hPre_even_bins := hPre_even_bins)
    ∧ quiescent_ReferenceIdeal (hReferenceIdeal := hReferenceIdeal)
    ∧ quiescent_ReferenceIdeal_pre_even_bins (hReferenceIdeal := hReferenceIdeal) (hPre_even_bins := hPre_even_bins)
    ∧ preserves_Kernel_KernelIdeal
    ∧ algebraic_KernelIdeal_ReferenceIdeal_pre_even_bins (hKernelIdeal := hKernelIdeal) (hReferenceIdeal := hReferenceIdeal) (hPre_even_bins := hPre_even_bins)
-- ==== Pre_even_bins.lean ====
abbrev S1000000x64 : Shape := ⟨2, ![1000000, 64]⟩
abbrev S64 : Shape := ⟨1, ![64]⟩
abbrev S65 : Shape := ⟨1, ![65]⟩
abbrev S_ : Shape := ⟨0, ![]⟩

class Facts : Prop where
  bcast_S_S65 : S_.BroadcastsInDim S65 (![] : Fin 0 → Fin S65.rank)
  reducesTo_S65_S_d0 : S65.ReducesTo [0] S_
  h_S_ : 0 < S_.numel
  slices_S65_S64_0 : S65.Slices ![0] S64
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x64 .f32) (main_arg1 : FVec F S64 .f32) (main_arg2 : FVec F S65 .f32) (main_arg3 : FVec F S64 .f32) (main_arg4 : FVec F S64 .f32) (main_arg5 : FVec F S64 .f32) : IVec S_ 1 :=
  let main_v0 : FVec F S65 .f32 := sitofp .f32 (iotaInDim S65 32 0)
  let main_cst : FVec F S_ .f32 := constant S_ .f32 0x3C800000#32
  let main_v1 : FVec F S65 .f32 := broadcastInDim S65 ![] bcast_S_S65 main_cst
  let main_v2 : FVec F S65 .f32 := mulf main_v0 main_v1
  let main_v3 : IVec S65 1 := cmpf .oeq main_arg2 main_v2
  let main_c : IVec S_ 1 := constantI S_ 1 1#1
  let main_v4 : IVec S_ 1 := (fun x v => Host.reduce IntOp.andi x v reducesTo_S65_S_d0 h_S_) main_v3 main_c
  let main_v5 : FVec F S64 .f32 := (extractStridedSlice S64 ![0] · slices_S65_S64_0) main_v0
  let main_cst_0 : FVec F S_ .f32 := constant S_ .f32 0x3F000000#32
  let main_v6 : FVec F S64 .f32 := broadcastInDim S64 ![] bcast_S_S64 main_cst_0
  let main_v7 : FVec F S64 .f32 := addf main_v5 main_v6
  let main_cst_1 : FVec F S_ .f32 := constant S_ .f32 0x3C800000#32
  let main_v8 : FVec F S64 .f32 := broadcastInDim S64 ![] bcast_S_S64 main_cst_1
  let main_v9 : FVec F S64 .f32 := mulf main_v7 main_v8
  let main_v10 : IVec S64 1 := cmpf .oeq main_arg5 main_v9
  let main_c_2 : IVec S_ 1 := constantI S_ 1 1#1
  let main_v11 : IVec S_ 1 := (fun x v => Host.reduce IntOp.andi x v reducesTo_S64_S_d0 h_S_) main_v10 main_c_2
  let main_v12 : IVec S_ 1 := andi main_v4 main_v11
  main_v12
-- ==== Kernel.lean ====
abbrev S1000000x64 : Shape := ⟨2, ![1000000, 64]⟩
abbrev S64 : Shape := ⟨1, ![64]⟩
abbrev S65 : Shape := ⟨1, ![65]⟩
abbrev S64x1000000 : Shape := ⟨2, ![64, 1000000]⟩
abbrev S64x64 : Shape := ⟨2, ![64, 64]⟩
abbrev S4096 : Shape := ⟨1, ![4096]⟩
abbrev S1000000 : Shape := ⟨1, ![1000000]⟩
abbrev S2x64x512 : Shape := ⟨3, ![2, 64, 512]⟩
abbrev S31232 : Shape := ⟨1, ![31232]⟩
abbrev S64x128 : Shape := ⟨2, ![64, 128]⟩
abbrev S128 : Shape := ⟨1, ![128]⟩
abbrev S1024 : Shape := ⟨1, ![1024]⟩
abbrev S_ : Shape := ⟨0, ![]⟩
abbrev S16 : Shape := ⟨1, ![16]⟩
abbrev S1 : Shape := ⟨1, ![1]⟩
abbrev S1x64x512 : Shape := ⟨3, ![1, 64, 512]⟩
abbrev S64x512 : Shape := ⟨2, ![64, 512]⟩
abbrev S1x16 : Shape := ⟨2, ![1, 16]⟩

abbrev nBuf : Table → Nat
  | .hbm => 10
  | .local .scVector .vmem => 7
  | _ => 0

abbrev bufTy : (tb : Table) → Fin (nBuf tb) → BufTy
  | .hbm, ⟨0, _⟩ => ⟨S1000000x64, .f32⟩
  | .hbm, ⟨1, _⟩ => ⟨S64, .f32⟩
  | .hbm, ⟨2, _⟩ => ⟨S65, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x1000000, .f32⟩
  | .hbm, ⟨7, _⟩ => ⟨S64x64, .f32⟩
  | .hbm, ⟨8, _⟩ => ⟨S4096, .f32⟩
  | .hbm, ⟨9, _⟩ => ⟨S1000000, .f32⟩
  | .local .scVector .vmem, ⟨0, _⟩ => ⟨S2x64x512, .f32⟩
  | .local .scVector .vmem, ⟨1, _⟩ => ⟨S31232, .f32⟩
  | .local .scVector .vmem, ⟨2, _⟩ => ⟨S64x128, .f32⟩
  | .local .scVector .vmem, ⟨3, _⟩ => ⟨S4096, .f32⟩
  | .local .scVector .vmem, ⟨4, _⟩ => ⟨S128, .f32⟩
  | .local .scVector .vmem, ⟨5, _⟩ => ⟨S64, .f32⟩
  | .local .scVector .vmem, ⟨6, _⟩ => ⟨S1024, .f32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 6, rfl⟩
abbrev main_arg1_scv : Ref sig .scVector := ⟨.hbm, 1, rfl⟩
abbrev main_v2_scv : Ref sig .scVector := ⟨.hbm, 8, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  let v263 : BitVec 32 := Scalar.addi v2 c0_i32
  ![0, v263.toNat]
@[reducible] def k0_t1_loop : Scf.Loop 32 :=
  let c0_i32_12 : BitVec 32 := 0#32
  let c30_i32 : BitVec 32 := 30#32
  let v270 : BitVec 32 := Scalar.addi c0_i32_12 c30_i32
  let c1_i32 : BitVec 32 := 1#32
  ⟨c0_i32_12, v270, c1_i32⟩
def k0_off2 (i : grid0.Coords) (k0_t1 : Fin k0_t1_loop.trips) (c1_i32_258 : BitVec 32) : Fin 2 → Nat :=
  let c0_i32_262 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  let c2_i32_257 : BitVec 32 := 2#32
  let c0_i32_12 : BitVec 32 := 0#32
  let c1_i32 : BitVec 32 := 1#32
  let arg15 : BitVec 32 := Scf.iv c0_i32_12 c1_i32 k0_t1
  let v866 : BitVec 32 := Scalar.muli c2_i32_257 arg15
  let v867 : BitVec 32 := Scalar.addi v866 c1_i32_258
  let c512_i32 : BitVec 32 := 512#32
  let v868 : BitVec 32 := Scalar.muli v867 c512_i32
  let v869 : BitVec 32 := Scalar.addi v2 v868
  ![0, v869.toNat]
def k0_off3 (i : grid0.Coords) (k0_t1 : Fin k0_t1_loop.trips) : Fin 2 → Nat :=
  let c0_i32_270 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  let c2_i32_257 : BitVec 32 := 2#32
  let c0_i32_12 : BitVec 32 := 0#32
  let c1_i32 : BitVec 32 := 1#32
  let arg15 : BitVec 32 := Scf.iv c0_i32_12 c1_i32 k0_t1
  let v866 : BitVec 32 := Scalar.muli c2_i32_257 arg15
  let c512_i32_266 : BitVec 32 := 512#32
  let v876 : BitVec 32 := Scalar.muli v866 c512_i32_266
  let v877 : BitVec 32 := Scalar.addi v2 v876
  ![0, v877.toNat]
@[reducible] def k0_t2_loop : Scf.Loop 32 :=
  let c0_i32_278 : BitVec 32 := 0#32
  let c64_i32_279 : BitVec 32 := 64#32
  let v887 : BitVec 32 := Scalar.addi c0_i32_278 c64_i32_279
  let c1_i32_280 : BitVec 32 := 1#32
  ⟨c0_i32_278, v887, c1_i32_280⟩
def k0_off4 (k0_t2 : Fin k0_t2_loop.trips) : Fin 1 → Nat :=
  let c0_i32_278 : BitVec 32 := 0#32
  let c1_i32_280 : BitVec 32 := 1#32
  let arg16 : BitVec 32 := Scf.iv c0_i32_278 c1_i32_280 k0_t2
  let c16_i32_822 : BitVec 32 := 16#32
  let v2203 : BitVec 32 := Scalar.muli arg16 c16_i32_822
  let v2204 : Index := Scalar.indexCast v2203
  ![v2204.toNat]
def k0_off5 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2208 : Index := Scalar.indexCast arg16
  let c0_825 : Index := 0#32
  ![v2208.toNat, 0]
def k0_off6 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2214 : Index := Scalar.indexCast arg16
  let c16_828 : Index := 16#32
  ![v2214.toNat, 16]
def k0_off7 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2220 : Index := Scalar.indexCast arg16
  let c32_831 : Index := 32#32
  ![v2220.toNat, 32]
def k0_off8 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2226 : Index := Scalar.indexCast arg16
  let c48_834 : Index := 48#32
  ![v2226.toNat, 48]
def k0_off9 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2232 : Index := Scalar.indexCast arg16
  let c64_837 : Index := 64#32
  ![v2232.toNat, 64]
def k0_off10 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2238 : Index := Scalar.indexCast arg16
  let c80_840 : Index := 80#32
  ![v2238.toNat, 80]
def k0_off11 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2244 : Index := Scalar.indexCast arg16
  let c96_843 : Index := 96#32
  ![v2244.toNat, 96]
def k0_off12 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2250 : Index := Scalar.indexCast arg16
  let c112_846 : Index := 112#32
  ![v2250.toNat, 112]
def k0_off13 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2256 : Index := Scalar.indexCast arg16
  let c128_849 : Index := 128#32
  ![v2256.toNat, 128]
def k0_off14 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2262 : Index := Scalar.indexCast arg16
  let c144_852 : Index := 144#32
  ![v2262.toNat, 144]
def k0_off15 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2268 : Index := Scalar.indexCast arg16
  let c160_855 : Index := 160#32
  ![v2268.toNat, 160]
def k0_off16 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2274 : Index := Scalar.indexCast arg16
  let c176_858 : Index := 176#32
  ![v2274.toNat, 176]
def k0_off17 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2280 : Index := Scalar.indexCast arg16
  let c192_861 : Index := 192#32
  ![v2280.toNat, 192]
def k0_off18 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2286 : Index := Scalar.indexCast arg16
  let c208_864 : Index := 208#32
  ![v2286.toNat, 208]
def k0_off19 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2292 : Index := Scalar.indexCast arg16
  let c224_867 : Index := 224#32
  ![v2292.toNat, 224]
def k0_off20 (k0_t2 : Fin k0_t2_loop.trips) : Fin 2 → Nat :=
  let c0_i32_278 : BitVec 32 := 0#32
  let c1_i32_280 : BitVec 32 := 1#32
  let arg16 : BitVec 32 := Scf.iv c0_i32_278 c1_i32_280 k0_t2
  let v2298 : Index := Scalar.indexCast arg16
  let c240_870 : Index := 240#32
  ![v2298.toNat, 240]
def k0_off21 (k0_t1 : Fin k0_t1_loop.trips) (c0_i32_275 : BitVec 32) (c0_i32_394 : BitVec 32) : Fin 1 → Nat :=
  let c2_i32_257 : BitVec 32 := 2#32
  let c0_i32_12 : BitVec 32 := 0#32
  let c1_i32 : BitVec 32 := 1#32
  let arg15 : BitVec 32 := Scf.iv c0_i32_12 c1_i32 k0_t1
  let v866 : BitVec 32 := Scalar.muli c2_i32_257 arg15
  let c512_i32_274 : BitVec 32 := 512#32
  let v884 : BitVec 32 := Scalar.muli v866 c512_i32_274
  let v885 : BitVec 32 := Scalar.addi v884 c0_i32_275
  let v1161 : BitVec 32 := Scalar.addi v885 c0_i32_394
  let v1162 : Index := Scalar.indexCast v1161
  ![v1162.toNat]
@[reducible] def k0_t3_loop : Scf.Loop 32 :=
  let c0_i32_399 : BitVec 32 := 0#32
  let c64_i32_400 : BitVec 32 := 64#32
  let v1212 : BitVec 32 := Scalar.addi c0_i32_399 c64_i32_400
  let c1_i32_401 : BitVec 32 := 1#32
  ⟨c0_i32_399, v1212, c1_i32_401⟩
def k0_off22 (k0_t3 : Fin k0_t3_loop.trips) : Fin 1 → Nat :=
  let c0_i32_399 : BitVec 32 := 0#32
  let c1_i32_401 : BitVec 32 := 1#32
  let arg16 : BitVec 32 := Scf.iv c0_i32_399 c1_i32_401 k0_t3
  let c16_i32_822 : BitVec 32 := 16#32
  let v2203 : BitVec 32 := Scalar.muli arg16 c16_i32_822
  let v2204 : Index := Scalar.indexCast v2203
  ![v2204.toNat]
def k0_off23 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2208 : Index := Scalar.indexCast arg16
  let c256_825 : Index := 256#32
  ![v2208.toNat, 256]
def k0_off24 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2214 : Index := Scalar.indexCast arg16
  let c272_828 : Index := 272#32
  ![v2214.toNat, 272]
def k0_off25 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2220 : Index := Scalar.indexCast arg16
  let c288_831 : Index := 288#32
  ![v2220.toNat, 288]
def k0_off26 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2226 : Index := Scalar.indexCast arg16
  let c304_834 : Index := 304#32
  ![v2226.toNat, 304]
def k0_off27 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2232 : Index := Scalar.indexCast arg16
  let c320_837 : Index := 320#32
  ![v2232.toNat, 320]
def k0_off28 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2238 : Index := Scalar.indexCast arg16
  let c336_840 : Index := 336#32
  ![v2238.toNat, 336]
def k0_off29 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2244 : Index := Scalar.indexCast arg16
  let c352_843 : Index := 352#32
  ![v2244.toNat, 352]
def k0_off30 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2250 : Index := Scalar.indexCast arg16
  let c368_846 : Index := 368#32
  ![v2250.toNat, 368]
def k0_off31 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2256 : Index := Scalar.indexCast arg16
  let c384_849 : Index := 384#32
  ![v2256.toNat, 384]
def k0_off32 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2262 : Index := Scalar.indexCast arg16
  let c400_852 : Index := 400#32
  ![v2262.toNat, 400]
def k0_off33 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2268 : Index := Scalar.indexCast arg16
  let c416_855 : Index := 416#32
  ![v2268.toNat, 416]
def k0_off34 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2274 : Index := Scalar.indexCast arg16
  let c432_858 : Index := 432#32
  ![v2274.toNat, 432]
def k0_off35 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2280 : Index := Scalar.indexCast arg16
  let c448_861 : Index := 448#32
  ![v2280.toNat, 448]
def k0_off36 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2286 : Index := Scalar.indexCast arg16
  let c464_864 : Index := 464#32
  ![v2286.toNat, 464]
def k0_off37 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2292 : Index := Scalar.indexCast arg16
  let c480_867 : Index := 480#32
  ![v2292.toNat, 480]
def k0_off38 (k0_t3 : Fin k0_t3_loop.trips) : Fin 2 → Nat :=
  let c0_i32_399 : BitVec 32 := 0#32
  let c1_i32_401 : BitVec 32 := 1#32
  let arg16 : BitVec 32 := Scf.iv c0_i32_399 c1_i32_401 k0_t3
  let v2298 : Index := Scalar.indexCast arg16
  let c496_870 : Index := 496#32
  ![v2298.toNat, 496]
@[reducible] def k0_t4_loop : Scf.Loop 32 :=
  let c0_i32_554 : BitVec 32 := 0#32
  let c64_i32_555 : BitVec 32 := 64#32
  let v1556 : BitVec 32 := Scalar.addi c0_i32_554 c64_i32_555
  let c1_i32_556 : BitVec 32 := 1#32
  ⟨c0_i32_554, v1556, c1_i32_556⟩
def k0_off39 (k0_t4 : Fin k0_t4_loop.trips) : Fin 1 → Nat :=
  let c0_i32_554 : BitVec 32 := 0#32
  let c1_i32_556 : BitVec 32 := 1#32
  let arg16 : BitVec 32 := Scf.iv c0_i32_554 c1_i32_556 k0_t4
  let c16_i32_822 : BitVec 32 := 16#32
  let v2203 : BitVec 32 := Scalar.muli arg16 c16_i32_822
  let v2204 : Index := Scalar.indexCast v2203
  ![v2204.toNat]
def k0_off40 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2208 : Index := Scalar.indexCast arg16
  let c0_825 : Index := 0#32
  ![v2208.toNat, 0]
def k0_off41 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2214 : Index := Scalar.indexCast arg16
  let c16_828 : Index := 16#32
  ![v2214.toNat, 16]
def k0_off42 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2220 : Index := Scalar.indexCast arg16
  let c32_831 : Index := 32#32
  ![v2220.toNat, 32]
def k0_off43 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2226 : Index := Scalar.indexCast arg16
  let c48_834 : Index := 48#32
  ![v2226.toNat, 48]
def k0_off44 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2232 : Index := Scalar.indexCast arg16
  let c64_837 : Index := 64#32
  ![v2232.toNat, 64]
def k0_off45 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2238 : Index := Scalar.indexCast arg16
  let c80_840 : Index := 80#32
  ![v2238.toNat, 80]
def k0_off46 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2244 : Index := Scalar.indexCast arg16
  let c96_843 : Index := 96#32
  ![v2244.toNat, 96]
def k0_off47 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2250 : Index := Scalar.indexCast arg16
  let c112_846 : Index := 112#32
  ![v2250.toNat, 112]
def k0_off48 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2256 : Index := Scalar.indexCast arg16
  let c128_849 : Index := 128#32
  ![v2256.toNat, 128]
def k0_off49 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2262 : Index := Scalar.indexCast arg16
  let c144_852 : Index := 144#32
  ![v2262.toNat, 144]
def k0_off50 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2268 : Index := Scalar.indexCast arg16
  let c160_855 : Index := 160#32
  ![v2268.toNat, 160]
def k0_off51 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2274 : Index := Scalar.indexCast arg16
  let c176_858 : Index := 176#32
  ![v2274.toNat, 176]
def k0_off52 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2280 : Index := Scalar.indexCast arg16
  let c192_861 : Index := 192#32
  ![v2280.toNat, 192]
def k0_off53 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2286 : Index := Scalar.indexCast arg16
  let c208_864 : Index := 208#32
  ![v2286.toNat, 208]
def k0_off54 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2292 : Index := Scalar.indexCast arg16
  let c224_867 : Index := 224#32
  ![v2292.toNat, 224]
def k0_off55 (k0_t4 : Fin k0_t4_loop.trips) : Fin 2 → Nat :=
  let c0_i32_554 : BitVec 32 := 0#32
  let c1_i32_556 : BitVec 32 := 1#32
  let arg16 : BitVec 32 := Scf.iv c0_i32_554 c1_i32_556 k0_t4
  let v2298 : Index := Scalar.indexCast arg16
  let c240_870 : Index := 240#32
  ![v2298.toNat, 240]
def k0_off56 (k0_t1 : Fin k0_t1_loop.trips) (c0_i32_551 : BitVec 32) (c0_i32_670 : BitVec 32) : Fin 1 → Nat :=
  let c2_i32_257 : BitVec 32 := 2#32
  let c0_i32_12 : BitVec 32 := 0#32
  let c1_i32 : BitVec 32 := 1#32
  let arg15 : BitVec 32 := Scf.iv c0_i32_12 c1_i32 k0_t1
  let v866 : BitVec 32 := Scalar.muli c2_i32_257 arg15
  let c1_i32_549 : BitVec 32 := 1#32
  let v1552 : BitVec 32 := Scalar.addi v866 c1_i32_549
  let c512_i32_550 : BitVec 32 := 512#32
  let v1553 : BitVec 32 := Scalar.muli v1552 c512_i32_550
  let v1554 : BitVec 32 := Scalar.addi v1553 c0_i32_551
  let v1830 : BitVec 32 := Scalar.addi v1554 c0_i32_670
  let v1831 : Index := Scalar.indexCast v1830
  ![v1831.toNat]
@[reducible] def k0_t5_loop : Scf.Loop 32 :=
  let c0_i32_690 : BitVec 32 := 0#32
  let c64_i32_691 : BitVec 32 := 64#32
  let v1881 : BitVec 32 := Scalar.addi c0_i32_690 c64_i32_691
  let c1_i32_692 : BitVec 32 := 1#32
  ⟨c0_i32_690, v1881, c1_i32_692⟩
def k0_off57 (k0_t5 : Fin k0_t5_loop.trips) : Fin 1 → Nat :=
  let c0_i32_690 : BitVec 32 := 0#32
  let c1_i32_692 : BitVec 32 := 1#32
  let arg16 : BitVec 32 := Scf.iv c0_i32_690 c1_i32_692 k0_t5
  let c16_i32_822 : BitVec 32 := 16#32
  let v2203 : BitVec 32 := Scalar.muli arg16 c16_i32_822
  let v2204 : Index := Scalar.indexCast v2203
  ![v2204.toNat]
def k0_off58 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2208 : Index := Scalar.indexCast arg16
  let c256_825 : Index := 256#32
  ![v2208.toNat, 256]
def k0_off59 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2214 : Index := Scalar.indexCast arg16
  let c272_828 : Index := 272#32
  ![v2214.toNat, 272]
def k0_off60 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2220 : Index := Scalar.indexCast arg16
  let c288_831 : Index := 288#32
  ![v2220.toNat, 288]
def k0_off61 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2226 : Index := Scalar.indexCast arg16
  let c304_834 : Index := 304#32
  ![v2226.toNat, 304]
def k0_off62 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2232 : Index := Scalar.indexCast arg16
  let c320_837 : Index := 320#32
  ![v2232.toNat, 320]
def k0_off63 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2238 : Index := Scalar.indexCast arg16
  let c336_840 : Index := 336#32
  ![v2238.toNat, 336]
def k0_off64 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2244 : Index := Scalar.indexCast arg16
  let c352_843 : Index := 352#32
  ![v2244.toNat, 352]
def k0_off65 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2250 : Index := Scalar.indexCast arg16
  let c368_846 : Index := 368#32
  ![v2250.toNat, 368]
def k0_off66 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2256 : Index := Scalar.indexCast arg16
  let c384_849 : Index := 384#32
  ![v2256.toNat, 384]
def k0_off67 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2262 : Index := Scalar.indexCast arg16
  let c400_852 : Index := 400#32
  ![v2262.toNat, 400]
def k0_off68 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2268 : Index := Scalar.indexCast arg16
  let c416_855 : Index := 416#32
  ![v2268.toNat, 416]
def k0_off69 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2274 : Index := Scalar.indexCast arg16
  let c432_858 : Index := 432#32
  ![v2274.toNat, 432]
def k0_off70 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2280 : Index := Scalar.indexCast arg16
  let c448_861 : Index := 448#32
  ![v2280.toNat, 448]
def k0_off71 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2286 : Index := Scalar.indexCast arg16
  let c464_864 : Index := 464#32
  ![v2286.toNat, 464]
def k0_off72 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2292 : Index := Scalar.indexCast arg16
  let c480_867 : Index := 480#32
  ![v2292.toNat, 480]
def k0_off73 (k0_t5 : Fin k0_t5_loop.trips) : Fin 2 → Nat :=
  let c0_i32_690 : BitVec 32 := 0#32
  let c1_i32_692 : BitVec 32 := 1#32
  let arg16 : BitVec 32 := Scf.iv c0_i32_690 c1_i32_692 k0_t5
  let v2298 : Index := Scalar.indexCast arg16
  let c496_870 : Index := 496#32
  ![v2298.toNat, 496]
@[reducible] def k0_t6_loop : Scf.Loop 32 :=
  let c0_i32_22 : BitVec 32 := 0#32
  let c64_i32 : BitVec 32 := 64#32
  let v279 : BitVec 32 := Scalar.addi c0_i32_22 c64_i32
  let c1_i32_23 : BitVec 32 := 1#32
  ⟨c0_i32_22, v279, c1_i32_23⟩
def k0_off74 (k0_t6 : Fin k0_t6_loop.trips) : Fin 1 → Nat :=
  let c0_i32_22 : BitVec 32 := 0#32
  let c1_i32_23 : BitVec 32 := 1#32
  let arg15 : BitVec 32 := Scf.iv c0_i32_22 c1_i32_23 k0_t6
  let c16_i32 : BitVec 32 := 16#32
  let v866 : BitVec 32 := Scalar.muli arg15 c16_i32
  let v867 : Index := Scalar.indexCast v866
  ![v867.toNat]
def k0_off75 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v871 : Index := Scalar.indexCast arg15
  let c0_259 : Index := 0#32
  ![v871.toNat, 0]
def k0_off76 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v877 : Index := Scalar.indexCast arg15
  let c16_262 : Index := 16#32
  ![v877.toNat, 16]
def k0_off77 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v883 : Index := Scalar.indexCast arg15
  let c32_265 : Index := 32#32
  ![v883.toNat, 32]
def k0_off78 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v889 : Index := Scalar.indexCast arg15
  let c48_268 : Index := 48#32
  ![v889.toNat, 48]
def k0_off79 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v895 : Index := Scalar.indexCast arg15
  let c64_271 : Index := 64#32
  ![v895.toNat, 64]
def k0_off80 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v901 : Index := Scalar.indexCast arg15
  let c80_274 : Index := 80#32
  ![v901.toNat, 80]
def k0_off81 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v907 : Index := Scalar.indexCast arg15
  let c96_277 : Index := 96#32
  ![v907.toNat, 96]
def k0_off82 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v913 : Index := Scalar.indexCast arg15
  let c112_280 : Index := 112#32
  ![v913.toNat, 112]
def k0_off83 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v919 : Index := Scalar.indexCast arg15
  let c128_283 : Index := 128#32
  ![v919.toNat, 128]
def k0_off84 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v925 : Index := Scalar.indexCast arg15
  let c144_286 : Index := 144#32
  ![v925.toNat, 144]
def k0_off85 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v931 : Index := Scalar.indexCast arg15
  let c160_289 : Index := 160#32
  ![v931.toNat, 160]
def k0_off86 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v937 : Index := Scalar.indexCast arg15
  let c176_292 : Index := 176#32
  ![v937.toNat, 176]
def k0_off87 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v943 : Index := Scalar.indexCast arg15
  let c192_295 : Index := 192#32
  ![v943.toNat, 192]
def k0_off88 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v949 : Index := Scalar.indexCast arg15
  let c208_298 : Index := 208#32
  ![v949.toNat, 208]
def k0_off89 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v955 : Index := Scalar.indexCast arg15
  let c224_301 : Index := 224#32
  ![v955.toNat, 224]
def k0_off90 (k0_t6 : Fin k0_t6_loop.trips) : Fin 2 → Nat :=
  let c0_i32_22 : BitVec 32 := 0#32
  let c1_i32_23 : BitVec 32 := 1#32
  let arg15 : BitVec 32 := Scf.iv c0_i32_22 c1_i32_23 k0_t6
  let v961 : Index := Scalar.indexCast arg15
  let c240_304 : Index := 240#32
  ![v961.toNat, 240]
@[reducible] def k0_t7_loop : Scf.Loop 32 :=
  let c0_i32_138 : BitVec 32 := 0#32
  let c64_i32_139 : BitVec 32 := 64#32
  let v570 : BitVec 32 := Scalar.addi c0_i32_138 c64_i32_139
  let c1_i32_140 : BitVec 32 := 1#32
  ⟨c0_i32_138, v570, c1_i32_140⟩
def k0_off91 (k0_t7 : Fin k0_t7_loop.trips) : Fin 1 → Nat :=
  let c0_i32_138 : BitVec 32 := 0#32
  let c1_i32_140 : BitVec 32 := 1#32
  let arg15 : BitVec 32 := Scf.iv c0_i32_138 c1_i32_140 k0_t7
  let c16_i32 : BitVec 32 := 16#32
  let v866 : BitVec 32 := Scalar.muli arg15 c16_i32
  let v867 : Index := Scalar.indexCast v866
  ![v867.toNat]
def k0_off92 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v871 : Index := Scalar.indexCast arg15
  let c256_259 : Index := 256#32
  ![v871.toNat, 256]
def k0_off93 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v877 : Index := Scalar.indexCast arg15
  let c272_262 : Index := 272#32
  ![v877.toNat, 272]
def k0_off94 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v883 : Index := Scalar.indexCast arg15
  let c288_265 : Index := 288#32
  ![v883.toNat, 288]
def k0_off95 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v889 : Index := Scalar.indexCast arg15
  let c304_268 : Index := 304#32
  ![v889.toNat, 304]
def k0_off96 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v895 : Index := Scalar.indexCast arg15
  let c320_271 : Index := 320#32
  ![v895.toNat, 320]
def k0_off97 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v901 : Index := Scalar.indexCast arg15
  let c336_274 : Index := 336#32
  ![v901.toNat, 336]
def k0_off98 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v907 : Index := Scalar.indexCast arg15
  let c352_277 : Index := 352#32
  ![v907.toNat, 352]
def k0_off99 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v913 : Index := Scalar.indexCast arg15
  let c368_280 : Index := 368#32
  ![v913.toNat, 368]
def k0_off100 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v919 : Index := Scalar.indexCast arg15
  let c384_283 : Index := 384#32
  ![v919.toNat, 384]
def k0_off101 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v925 : Index := Scalar.indexCast arg15
  let c400_286 : Index := 400#32
  ![v925.toNat, 400]
def k0_off102 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v931 : Index := Scalar.indexCast arg15
  let c416_289 : Index := 416#32
  ![v931.toNat, 416]
def k0_off103 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v937 : Index := Scalar.indexCast arg15
  let c432_292 : Index := 432#32
  ![v937.toNat, 432]
def k0_off104 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v943 : Index := Scalar.indexCast arg15
  let c448_295 : Index := 448#32
  ![v943.toNat, 448]
def k0_off105 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v949 : Index := Scalar.indexCast arg15
  let c464_298 : Index := 464#32
  ![v949.toNat, 464]
def k0_off106 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v955 : Index := Scalar.indexCast arg15
  let c480_301 : Index := 480#32
  ![v955.toNat, 480]
def k0_off107 (k0_t7 : Fin k0_t7_loop.trips) : Fin 2 → Nat :=
  let c0_i32_138 : BitVec 32 := 0#32
  let c1_i32_140 : BitVec 32 := 1#32
  let arg15 : BitVec 32 := Scf.iv c0_i32_138 c1_i32_140 k0_t7
  let v961 : Index := Scalar.indexCast arg15
  let c496_304 : Index := 496#32
  ![v961.toNat, 496]
def k0_off108 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31232_i32 : BitVec 32 := 31232#32
  let v2 : BitVec 32 := Scalar.muli v1 c31232_i32
  ![v2.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v860 : BitVec 1 := Scalar.cmpi .slt v1 c4_i32
  let v861 : BitVec 32 := Scalar.extui v860
  let c0_i32_254 : BitVec 32 := 0#32
  let v862 : BitVec 1 := Scalar.cmpi .ne v861 c0_i32_254
  v862

def k0_off109 (i : grid0.Coords) : Fin 2 → Nat :=
  let c0_i32_326_r2 : BitVec 32 := 0#32
  let c999424_i32 : BitVec 32 := 999424#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v866 : BitVec 32 := Scalar.muli v1 c128_i32
  let v867 : BitVec 32 := Scalar.addi c999424_i32 v866
  ![0, v867.toNat]
@[reducible] def k0_t8_loop : Scf.Loop 32 :=
  let c0_i32_258 : BitVec 32 := 0#32
  let c64_i32_259 : BitVec 32 := 64#32
  let v869 : BitVec 32 := Scalar.addi c0_i32_258 c64_i32_259
  let c1_i32_260 : BitVec 32 := 1#32
  ⟨c0_i32_258, v869, c1_i32_260⟩
def k0_off110 (k0_t8 : Fin k0_t8_loop.trips) : Fin 1 → Nat :=
  let c0_i32_258 : BitVec 32 := 0#32
  let c1_i32_260 : BitVec 32 := 1#32
  let arg15 : BitVec 32 := Scf.iv c0_i32_258 c1_i32_260 k0_t8
  let c16_i32 : BitVec 32 := 16#32
  let v1015 : BitVec 32 := Scalar.muli arg15 c16_i32
  let v1016 : Index := Scalar.indexCast v1015
  ![v1016.toNat]
def k0_off111 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1018 : Index := Scalar.indexCast arg15
  let c0_326 : Index := 0#32
  ![v1018.toNat, 0]
def k0_off112 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1022 : Index := Scalar.indexCast arg15
  let c16_327 : Index := 16#32
  ![v1022.toNat, 16]
def k0_off113 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1026 : Index := Scalar.indexCast arg15
  let c32_328 : Index := 32#32
  ![v1026.toNat, 32]
def k0_off114 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1030 : Index := Scalar.indexCast arg15
  let c48_329 : Index := 48#32
  ![v1030.toNat, 48]
def k0_off115 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1034 : Index := Scalar.indexCast arg15
  let c64_330 : Index := 64#32
  ![v1034.toNat, 64]
def k0_off116 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1038 : Index := Scalar.indexCast arg15
  let c80_331 : Index := 80#32
  ![v1038.toNat, 80]
def k0_off117 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1042 : Index := Scalar.indexCast arg15
  let c96_332 : Index := 96#32
  ![v1042.toNat, 96]
def k0_off118 (k0_t8 : Fin k0_t8_loop.trips) : Fin 2 → Nat :=
  let c0_i32_258 : BitVec 32 := 0#32
  let c1_i32_260 : BitVec 32 := 1#32
  let arg15 : BitVec 32 := Scf.iv c0_i32_258 c1_i32_260 k0_t8
  let v1046 : Index := Scalar.indexCast arg15
  let c112_333 : Index := 112#32
  ![v1046.toNat, 112]
def k0_off119 (i : grid0.Coords) : Fin 1 → Nat :=
  let c999424_i32 : BitVec 32 := 999424#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v866 : BitVec 32 := Scalar.muli v1 c128_i32
  let v867 : BitVec 32 := Scalar.addi c999424_i32 v866
  ![v867.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_255 : BitVec 32 := 4#32
  let v863 : BitVec 1 := Scalar.cmpi .eq v1 c4_i32_255
  let v864 : BitVec 32 := Scalar.extui v863
  let c0_i32_256 : BitVec 32 := 0#32
  let v865 : BitVec 1 := Scalar.cmpi .ne v864 c0_i32_256
  v865

@[reducible] def k0_t9_loop : Scf.Loop 32 :=
  let c0_i32_258 : BitVec 32 := 0#32
  let c64_i32_259 : BitVec 32 := 64#32
  let v867 : BitVec 32 := Scalar.addi c0_i32_258 c64_i32_259
  let c1_i32_260 : BitVec 32 := 1#32
  ⟨c0_i32_258, v867, c1_i32_260⟩
def k0_off120 (k0_t9 : Fin k0_t9_loop.trips) : Fin 1 → Nat :=
  let c0_i32_258 : BitVec 32 := 0#32
  let c1_i32_260 : BitVec 32 := 1#32
  let arg15 : BitVec 32 := Scf.iv c0_i32_258 c1_i32_260 k0_t9
  let c16_i32 : BitVec 32 := 16#32
  let v941 : BitVec 32 := Scalar.muli arg15 c16_i32
  let v942 : Index := Scalar.indexCast v941
  ![v942.toNat]
def k0_off121 (k0_t9 : Fin k0_t9_loop.trips) (c0_i32_295 : BitVec 32) : Fin 1 → Nat :=
  let c0_i32_258 : BitVec 32 := 0#32
  let c1_i32_260 : BitVec 32 := 1#32
  let arg15 : BitVec 32 := Scf.iv c0_i32_258 c1_i32_260 k0_t9
  let c64_i32_294 : BitVec 32 := 64#32
  let v944 : BitVec 32 := Scalar.muli arg15 c64_i32_294
  let v945 : BitVec 32 := Scalar.addi v944 c0_i32_295
  let v946 : Index := Scalar.indexCast v945
  ![v946.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x64 : Shape := ⟨2, ![1000000, 64]⟩
abbrev S64 : Shape := ⟨1, ![64]⟩
abbrev S65 : Shape := ⟨1, ![65]⟩
abbrev S1000000 : Shape := ⟨1, ![1000000]⟩
abbrev S_ : Shape := ⟨0, ![]⟩
abbrev S1000000x1 : Shape := ⟨2, ![1000000, 1]⟩
abbrev S1x64 : Shape := ⟨2, ![1, 64]⟩
abbrev S1 : Shape := ⟨1, ![1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S64, .f32⟩
  | .hbm, ⟨2, _⟩ => ⟨S65, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S_, .f32⟩
  | .hbm, ⟨10, _⟩ => ⟨S1000000, .f32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S1000000x1, .f32⟩
  | .hbm, ⟨16, _⟩ => ⟨S64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S1000000x64, .i1⟩
  | .hbm, ⟨21, _⟩ => ⟨S1000000x1, .f32⟩
  | .hbm, ⟨22, _⟩ => ⟨S64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1000000x64, .i1⟩
  | .hbm, ⟨27, _⟩ => ⟨S1000000x64, .i1⟩
  | .hbm, ⟨28, _⟩ => ⟨S1000000x64, .i32⟩
  | .hbm, ⟨29, _⟩ => ⟨S1000000x64, .i32⟩
  | .hbm, ⟨30, _⟩ => ⟨S_, .i32⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1, .i32⟩
  | .hbm, ⟨43, _⟩ => ⟨S_, .i32⟩
  | .hbm, ⟨44, _⟩ => ⟨S1000000x1, .i32⟩
  | .hbm, ⟨45, _⟩ => ⟨S1000000x1, .i1⟩
  | .hbm, ⟨46, _⟩ => ⟨S1x1, .i32⟩
  | .hbm, ⟨47, _⟩ => ⟨S1000000x1, .i32⟩
  | .hbm, ⟨48, _⟩ => ⟨S1000000x1, .i1⟩
  | .hbm, ⟨49, _⟩ => ⟨S1000000x1, .i1⟩
  | .hbm, ⟨50, _⟩ => ⟨S_, .i1⟩
  | .hbm, ⟨51, _⟩ => ⟨S1000000, .i1⟩
  | .hbm, ⟨52, _⟩ => ⟨S1000000, .f32⟩
  | .hbm, ⟨53, _⟩ => ⟨S_, .f32⟩
  | .hbm, ⟨54, _⟩ => ⟨S1000000, .f32⟩
  | .hbm, ⟨55, _⟩ => ⟨S1000000, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_c : Ref sig .tc := ⟨.hbm, 30, rfl⟩
abbrev main_call0_c_0 : Ref sig .tc := ⟨.hbm, 31, rfl⟩
abbrev main_call0_v1_0 : Ref sig .tc := ⟨.hbm, 32, rfl⟩
abbrev main_v21 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v22 : Ref sig .tc := ⟨.hbm, 55, rfl⟩

abbrev nD : Nat := 1
abbrev τ : Topo := Topo.v7x

variable {F : FTy → Type} [FloatOps F]
-- ==== Proof.Common.lean ====
/-
  What the proof's modules share: the program as the launch theorem sees it, the algebra of its ghost state, the
  kernel's arrays under the names a vector subcore gives them, and the values — what one row of `x` gives, and how a
  running sum and a bucket are computed from it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

abbrev EH : Emb UH (MT nD τ sig (HIx 1) (Elt F) ℕ UU ℕ) := embL

/-! ## Indices by number -/

/-- Row `n` of the `j`-th... entry `(d, n)` of the transposed `x`, its numbers taken modulo the extents. -/
def xIx (d n : ℕ) : S64x1000000.Idx := fun
  | 0 => ⟨d % 64, Nat.mod_lt _ (by decide)⟩
  | 1 => ⟨n % 1000000, Nat.mod_lt _ (by decide)⟩
/-- Entry `d` of the weights. -/
def wIx (d : ℕ) : S64.Idx := fun | 0 => ⟨d % 64, Nat.mod_lt _ (by decide)⟩
/-- Entry `k` of the last 64 rows laid out flat. -/
def lIx (k : ℕ) : S4096.Idx := fun | 0 => ⟨k % 4096, Nat.mod_lt _ (by decide)⟩
/-- Entry `k` of the result. -/
def oIx (n : ℕ) : S1000000.Idx := fun | 0 => ⟨n % 1000000, Nat.mod_lt _ (by decide)⟩

/-! ## The values -/

variable [FloatOps F]

/-- The running sum: zero, then one product added at a time. -/
def acc (w x : ℕ → F .f32) : ℕ → F .f32
  | 0 => Scalar.ofBits .f32 0x00000000#32
  | k + 1 => FloatOps.addf (acc w x k) (FloatOps.mulf (x k) (w k))

/-- The middle of the bucket a sum falls in: the logistic function, times 64, cut to a whole number below 64, and back. -/
def bucket (z : F .f32) : F .f32 :=
  FloatOps.addf
    (FloatOps.mulf
      (FloatOps.sitofp .f32
        (IntOp.andi
          (FloatOps.fptosi 32
            (FloatOps.mulf
              (FloatOps.divf (Scalar.ofBits .f32 0x3F800000#32)
                (FloatOps.addf (Scalar.ofBits .f32 0x3F800000#32)
                  (FloatOps.exp (FloatOps.subf (Scalar.ofBits .f32 0x00000000#32) z))))
              (Scalar.ofBits .f32 0x42800000#32)))
          63#32))
      (Scalar.ofBits .f32 0x3C800000#32))
    (Scalar.ofBits .f32 0x3C000000#32)

/-- The result's entry for column `n` of the transposed `x` at weights `w`. -/
def row (xt : S64x1000000.Idx → F .f32) (w : S64.Idx → F .f32) (n : ℕ) : F .f32 :=
  bucket (acc (fun d => w (wIx d)) (fun d => xt (xIx d n)) 64)

/-- Sixteen running sums, those of the columns `o … o + 15`. -/
def accs (w : ℕ → F .f32) (x : ℕ → ℕ → F .f32) (k o : ℕ) : FVec F S16 .f32 := fun l => acc w (fun d => x d (o + (l 0).val)) k

theorem accs_zero (w : ℕ → F .f32) (x : ℕ → ℕ → F .f32) (o : ℕ) : accs w x 0 o = fun _ => Scalar.ofBits .f32 0x00000000#32 := rfl
theorem accs_succ (w : ℕ → F .f32) (x : ℕ → ℕ → F .f32) (k o : ℕ) :
    accs w x (k + 1) o = addf (accs w x k o) (mulf (fun l => x k (o + (l 0).val)) (fun _ => w k)) := rfl

end Cert.Proof.Bucket

end
-- ==== Proof.Loops.lean ====
/-
  The inner loops: one trip reads a table entry and sixteen stretches of a row of the block, and adds the products to
  sixteen vectors of running sums. One trip is written once over the places it reads at; each of the kernel's loops is
  that trip at its own places.
-/
module

public import proofs.«01_k».proof.Proof.Common

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Reading a block and the table -/

/-- Entry `(d, r)` of a block. -/
def bIx (d r : ℕ) : S64x512.Idx := fun
  | 0 => ⟨d % 64, Nat.mod_lt _ (by decide)⟩
  | 1 => ⟨r % 512, Nat.mod_lt _ (by decide)⟩
/-- Entry `k` of the table. -/
def tIx (k : ℕ) : S1024.Idx := fun | 0 => ⟨k % 1024, Nat.mod_lt _ (by decide)⟩

/-- A stretch of sixteen table entries. -/
theorem read_tab (tab : Memref sig .scVector .vmem S1024 .f32) (f : tab.view.ty.Contents (Elt F))
    (o : Fin 1 → ℕ) (inb : ∀ a, o a + S16.size a ≤ S1024.size a) (k : ℕ) (ho : o = ![k]) :
    (tab.view.readAt (Elt F) (Rect.unit (s := S1024) o S16.size inb).toLoadRect f : S16.Idx → F .f32)
      = fun l => tab.view.read (Elt F) f (tIx (k + (l 0).val)) := by
  subst ho; funext l
  refine congrArg (tab.view.read (Elt F) f) (funext fun a => ?_)
  match a with
  | 0 =>
    have h1 : k + 16 ≤ 1024 := inb 0
    have h2 : (l 0).val < 16 := (l 0).isLt
    refine Fin.ext ?_
    show k + 1 * (l 0).val = (k + (l 0).val) % 1024
    rw [Nat.mod_eq_of_lt (by omega)]; omega

/-- A stretch of sixteen entries of a block's row. -/
theorem read_blk (slot : Memref sig .scVector .vmem S64x512 .f32) (f : slot.view.ty.Contents (Elt F))
    (o : Fin 2 → ℕ) (inb : ∀ a, o a + S1x16.size a ≤ S64x512.size a) (d r : ℕ) (ho : o = ![d, r]) :
    (shapeCast S16 (slot.view.readAt (Elt F) (Rect.unit (s := S64x512) o S1x16.size inb).toLoadRect f : S1x16.Idx → F .f32) shapeCasts_S1x16_S16)
      = fun l => slot.view.read (Elt F) f (bIx d (r + (l 0).val)) := by
  subst ho; funext l
  unfold shapeCast
  rw [show Shape.reshapeEquiv _ l = _ from Shape.reshapeEquiv_cons_one (d := ![16]) _ l]
  refine congrArg (slot.view.read (Elt F) f) (funext fun a => ?_)
  match a with
  | 0 =>
    have h1 : d + 1 ≤ 64 := inb 0
    refine Fin.ext ?_
    show d + 1 * 0 = d % 64
    rw [Nat.mod_eq_of_lt (by omega)]; omega
  | 1 =>
    have h1 : r + 16 ≤ 512 := inb 1
    have h2 : (l 0).val < 16 := (l 0).isLt
    refine Fin.ext ?_
    show r + 1 * (l 0).val = (r + (l 0).val) % 512
    rw [Nat.mod_eq_of_lt (by omega)]; omega

/-- Sixteen vectors of running sums. -/
abbrev Acc16 (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- The sums after `k` trips of the columns `r … r + 255`. -/
def sums16 (w : ℕ → F .f32) (x : ℕ → ℕ → F .f32) (k r : ℕ) : Acc16 F :=
  (accs w x k r, accs w x k (r + 16), accs w x k (r + 32), accs w x k (r + 48), accs w x k (r + 64), accs w x k (r + 80), accs w x k (r + 96),
    accs w x k (r + 112), accs w x k (r + 128), accs w x k (r + 144), accs w x k (r + 160), accs w x k (r + 176), accs w x k (r + 192),
    accs w x k (r + 208), accs w x k (r + 224), accs w x k (r + 240))

/-- One product added. -/
abbrev step (a : FVec F S16 .f32) (t : Vec F S16 .f32) (ld : Vec F S1x16 .f32) : FVec F S16 .f32 :=
  addf a (mulf (shapeCast S16 ld shapeCasts_S1x16_S16) t)

/-- One sum's step: the product of entry `k`. -/
theorem step_eq (w : ℕ → F .f32) (x : ℕ → ℕ → F .f32) (tab : Memref sig .scVector .vmem S1024 .f32) (ft : tab.view.ty.Contents (Elt F))
    (slot : Memref sig .scVector .vmem S64x512 .f32) (fs : slot.view.ty.Contents (Elt F))
    (k : ℕ) (ht : ∀ l : S16.Idx, tab.view.read (Elt F) ft (tIx (16 * k + (l 0).val)) = w k)
    (hx : ∀ r, r < 512 → slot.view.read (Elt F) fs (bIx k r) = x k r)
    (oT : Fin 1 → ℕ) (inbT : ∀ a, oT a + S16.size a ≤ S1024.size a) (hoT : oT = ![16 * k])
    (o : Fin 2 → ℕ) (inb : ∀ a, o a + S1x16.size a ≤ S64x512.size a) (r : ℕ) (ho : o = ![k, r]) :
    step (accs w x k r) (tab.view.readAt (Elt F) (Rect.unit (s := S1024) oT S16.size inbT).toLoadRect ft)
        (slot.view.readAt (Elt F) (Rect.unit (s := S64x512) o S1x16.size inb).toLoadRect fs)
      = accs w x (k + 1) r := by
  rw [accs_succ]
  unfold step
  rw [read_blk slot fs o inb k r ho, read_tab tab ft oT inbT (16 * k) hoT]
  have hr : r + 16 ≤ 512 := by subst ho; exact inb 1
  refine funext fun l => ?_
  have hl : (l 0).val < 16 := (l 0).isLt
  show FloatOps.addf _ (FloatOps.mulf _ _) = FloatOps.addf _ (FloatOps.mulf _ _)
  beta_reduce; rw [ht, hx _ (by omega)]

variable {c : Fin τ.nSC} {j : Fin τ.nSub}

/-- One trip, over the places it reads at. -/
def trip (tab : Memref sig .scVector .vmem S1024 .f32) (slot : Memref sig .scVector .vmem S64x512 .f32)
    (oT : Fin 1 → ℕ) (hT : ∀ a, oT a + S16.size a ≤ S1024.size a)
    (o : Fin 16 → Fin 2 → ℕ) (ho : ∀ g a, o g a + S1x16.size a ≤ S64x512.size a) (a : Acc16 F) :
    Prog (TpuEff nD τ sig (Elt F) Λ₀ (.scVector c j)) (Acc16 F) := do
  let t : Vec F S16 .f32 ← Prog.lift (.load tab (Rect.unit (s := S1024) oT S16.size hT).toLoadRect (View.loadsAt_vmem h_S16))
  let x0 : Vec F S1x16 .f32 ← Prog.lift (.load slot (Rect.unit (s := S64x512) (o 0) S1x16.size (ho 0)).toLoadRect (View.loadsAt_vmem h_S1x16))
  let x1 : Vec F S1x16 .f32 ← Prog.lift (.load slot (Rect.unit (s := S64x512) (o 1) S1x16.size (ho 1)).toLoadRect (View.loadsAt_vmem h_S1x16))
  let x2 : Vec F S1x16 .f32 ← Prog.lift (.load slot (Rect.unit (s := S64x512) (o 2) S1x16.size (ho 2)).toLoadRect (View.loadsAt_vmem h_S1x16))
  let x3 : Vec F S1x16 .f32 ← Prog.lift (.load slot (Rect.unit (s := S64x512) (o 3) S1x16.size (ho 3)).toLoadRect (View.loadsAt_vmem h_S1x16))
  let x4 : Vec F S1x16 .f32 ← Prog.lift (.load slot (Rect.unit (s := S64x512) (o 4) S1x16.size (ho 4)).toLoadRect (View.loadsAt_vmem h_S1x16))
  let x5 : Vec F S1x16 .f32 ← Prog.lift (.load slot (Rect.unit (s := S64x512) (o 5) S1x16.size (ho 5)).toLoadRect (View.loadsAt_vmem h_S1x16))
  let x6 : Vec F S1x16 .f32 ← Prog.lift (.load slot (Rect.unit (s := S64x512) (o 6) S1x16.size (ho 6)).toLoadRect (View.loadsAt_vmem h_S1x16))
  let x7 : Vec F S1x16 .f32 ← Prog.lift (.load slot (Rect.unit (s := S64x512) (o 7) S1x16.size (ho 7)).toLoadRect (View.loadsAt_vmem h_S1x16))
  let x8 : Vec F S1x16 .f32 ← Prog.lift (.load slot (Rect.unit (s := S64x512) (o 8) S1x16.size (ho 8)).toLoadRect (View.loadsAt_vmem h_S1x16))
  let x9 : Vec F S1x16 .f32 ← Prog.lift (.load slot (Rect.unit (s := S64x512) (o 9) S1x16.size (ho 9)).toLoadRect (View.loadsAt_vmem h_S1x16))
  let x10 : Vec F S1x16 .f32 ← Prog.lift (.load slot (Rect.unit (s := S64x512) (o 10) S1x16.size (ho 10)).toLoadRect (View.loadsAt_vmem h_S1x16))
  let x11 : Vec F S1x16 .f32 ← Prog.lift (.load slot (Rect.unit (s := S64x512) (o 11) S1x16.size (ho 11)).toLoadRect (View.loadsAt_vmem h_S1x16))
  let x12 : Vec F S1x16 .f32 ← Prog.lift (.load slot (Rect.unit (s := S64x512) (o 12) S1x16.size (ho 12)).toLoadRect (View.loadsAt_vmem h_S1x16))
  let x13 : Vec F S1x16 .f32 ← Prog.lift (.load slot (Rect.unit (s := S64x512) (o 13) S1x16.size (ho 13)).toLoadRect (View.loadsAt_vmem h_S1x16))
  let x14 : Vec F S1x16 .f32 ← Prog.lift (.load slot (Rect.unit (s := S64x512) (o 14) S1x16.size (ho 14)).toLoadRect (View.loadsAt_vmem h_S1x16))
  let x15 : Vec F S1x16 .f32 ← Prog.lift (.load slot (Rect.unit (s := S64x512) (o 15) S1x16.size (ho 15)).toLoadRect (View.loadsAt_vmem h_S1x16))
  pure (step a.1 t x0, step a.2.1 t x1, step a.2.2.1 t x2, step a.2.2.2.1 t x3, step a.2.2.2.2.1 t x4, step a.2.2.2.2.2.1 t x5, step a.2.2.2.2.2.2.1 t x6, step a.2.2.2.2.2.2.2.1 t x7, step a.2.2.2.2.2.2.2.2.1 t x8, step a.2.2.2.2.2.2.2.2.2.1 t x9, step a.2.2.2.2.2.2.2.2.2.2.1 t x10, step a.2.2.2.2.2.2.2.2.2.2.2.1 t x11, step a.2.2.2.2.2.2.2.2.2.2.2.2.1 t x12, step a.2.2.2.2.2.2.2.2.2.2.2.2.2.1 t x13, step a.2.2.2.2.2.2.2.2.2.2.2.2.2.2.1 t x14, step a.2.2.2.2.2.2.2.2.2.2.2.2.2.2.2 t x15)

theorem trip_wp (d : Dev nD) (w : ℕ → F .f32) (x : ℕ → ℕ → F .f32) (tab : Memref sig .scVector .vmem S1024 .f32) (ft : tab.view.ty.Contents (Elt F))
    (slot : Memref sig .scVector .vmem S64x512 .f32) (fs : slot.view.ty.Contents (Elt F)) (qt qs : PosShare TreeShare)
    (k r : ℕ) (ht : ∀ l : S16.Idx, tab.view.read (Elt F) ft (tIx (16 * k + (l 0).val)) = w k)
    (hx : ∀ r, r < 512 → slot.view.read (Elt F) fs (bIx k r) = x k r)
    (oT : Fin 1 → ℕ) (hT : ∀ a, oT a + S16.size a ≤ S1024.size a) (hoT : oT = ![16 * k])
    (o : Fin 16 → Fin 2 → ℕ) (ho : ∀ g a, o g a + S1x16.size a ≤ S64x512.size a) (hor : ∀ g : Fin 16, o g = ![k, r + 16 * g.val]) :
    iprop((tab.view.loc (V d c j) ↦[tab.view.set]{qt} ft) ∗ (slot.view.loc (V d c j) ↦[slot.view.set]{qs} fs))
      ⊢ (wp frame (wpE (defs₀ (F := F)) 𝒱₀ (V d c j) none) Set.univ (trip tab slot oT hT o ho (sums16 w x k r))
          fun a => iprop(⌜a = sums16 w x (k + 1) r⌝ ∗ (tab.view.loc (V d c j) ↦[tab.view.set]{qt} ft) ∗ (slot.view.loc (V d c j) ↦[slot.view.set]{qs} fs)) : sProp 𝕄) := by
  unfold trip
  iintro ⟨Ht, Hs⟩
  sl_exec
  sl_step
  isplitr
  · ipureintro
    have S := fun g : Fin 16 => step_eq w x tab ft slot fs k ht hx oT hT hoT (o g) (ho g) (r + 16 * g.val) (hor g)
    exact Prod.ext (S 0) (Prod.ext (S 1) (Prod.ext (S 2) (Prod.ext (S 3) (Prod.ext (S 4) (Prod.ext (S 5) (Prod.ext (S 6) (Prod.ext (S 7) (Prod.ext (S 8) (Prod.ext (S 9) (Prod.ext (S 10) (Prod.ext (S 11) (Prod.ext (S 12) (Prod.ext (S 13) (Prod.ext (S 14) (S 15)))))))))))))))
  isplitl [Ht]
  · iexact Ht
  · iexact Hs

/-! ## The kernel's loops are that trip -/

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

theorem all16 {P : Fin 16 → Prop} (h0 : P 0) (h1 : P 1) (h2 : P 2) (h3 : P 3) (h4 : P 4) (h5 : P 5) (h6 : P 6) (h7 : P 7) (h8 : P 8) (h9 : P 9)
    (h10 : P 10) (h11 : P 11) (h12 : P 12) (h13 : P 13) (h14 : P 14) (h15 : P 15) : ∀ g, P g := by
  intro g; fin_cases g <;> assumption

theorem blk_inb {k : ℕ} (hk : k < 64) (r : ℕ) (hr : r ≤ 256) (g : Fin 16) (a : Fin 2) : ![k, r + 16 * g.val] a + S1x16.size a ≤ S64x512.size a := by
  have := g.isLt
  match a with
  | 0 => show k + 1 ≤ 64; omega
  | 1 => show r + 16 * g.val + 16 ≤ 512; omega

/-- The two halves of the block buffer. -/
abbrev slot0 : Memref sig .scVector .vmem S64x512 .f32 :=
  ((xb).slice (Rect.unit (s := S2x64x512) ![0, 0, 0] S1x64x512.size inb_S2x64x512_S1x64x512_0_0_0) (fun _ => rfl)).squeeze S64x512 squeezes_S1x64x512_S64x512
abbrev slot1 : Memref sig .scVector .vmem S64x512 .f32 :=
  ((xb).slice (Rect.unit (s := S2x64x512) ![1, 0, 0] S1x64x512.size inb_S2x64x512_S1x64x512_1_0_0) (fun _ => rfl)).squeeze S64x512 squeezes_S1x64x512_S64x512

/-- A loop body at trip `k` is the trip over the table and a block, at columns `r …` of the block. -/
def IsTrip (tab : Memref sig .scVector .vmem S1024 .f32) (slot : Memref sig .scVector .vmem S64x512 .f32) (k r : ℕ)
    (b : Acc16 F → Prog (TpuEff nD τ sig (Elt F) Λ₀ (.scVector c j)) (Acc16 F)) : Prop :=
  ∃ (oT : Fin 1 → ℕ) (hT : ∀ a, oT a + S16.size a ≤ S1024.size a) (o : Fin 16 → Fin 2 → ℕ) (ho : ∀ g a, o g a + S1x16.size a ≤ S64x512.size a),
    oT = ![16 * k] ∧ (∀ g : Fin 16, o g = ![k, r + 16 * g.val]) ∧ ∀ a, b a = trip tab slot oT hT o ho a

/-- What holds between the trips of a loop over a block: the sums so far, the table, the block. -/
def tripInv (d : Dev nD) (c : Fin τ.nSC) (j : Fin τ.nSub) (w : ℕ → F .f32) (x : ℕ → ℕ → F .f32)
    (tab : Memref sig .scVector .vmem S1024 .f32) (ft : tab.view.ty.Contents (Elt F))
    (slot : Memref sig .scVector .vmem S64x512 .f32) (fs : slot.view.ty.Contents (Elt F)) (r k : ℕ) (a : Acc16 F) : sProp 𝕄 :=
  iprop(⌜a = sums16 w x k r⌝ ∗ (tab.view.loc (V d c j) ↦[tab.view.set]{fullShare} ft) ∗ (slot.view.loc (V d c j) ↦[slot.view.set]{fullShare} fs))

theorem trip_region (d : Dev nD) (w : ℕ → F .f32) (x : ℕ → ℕ → F .f32)
    (tab : Memref sig .scVector .vmem S1024 .f32) (ft : tab.view.ty.Contents (Elt F))
    (slot : Memref sig .scVector .vmem S64x512 .f32) (fs : slot.view.ty.Contents (Elt F))
    (k r : ℕ) (ht : ∀ l : S16.Idx, tab.view.read (Elt F) ft (tIx (16 * k + (l 0).val)) = w k)
    (hx : ∀ r, r < 512 → slot.view.read (Elt F) fs (bIx k r) = x k r)
    (b : Acc16 F → Prog (TpuEff nD τ sig (Elt F) Λ₀ (.scVector c j)) (Acc16 F)) (hb : IsTrip tab slot k r b) (a : Acc16 F) :
    tripInv d c j w x tab ft slot fs r k a
      ⊢ wp frame (wpE (defs₀ (F := F)) 𝒱₀ (V d c j) none) Set.univ (b a) (tripInv d c j w x tab ft slot fs r (k + 1)) := by
  obtain ⟨oT, hT, o, ho, e1, e2, e3⟩ := hb
  unfold tripInv
  iintro ⟨%ha, H⟩
  subst ha
  rw [e3]
  iapply (trip_wp d w x tab ft slot fs fullShare fullShare k r ht hx oT hT e1 o ho e2)
  iexact H

theorem t2_trip (i : grid0.Coords) (v2 c0_i32_12 c1_i32 : BitVec 32) (k0_t1 : Fin k0_t1_loop.trips) (k : Fin k0_t2_loop.trips) :
    IsTrip wt slot0 k.val 0 (k0_t2_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        v2 c0_i32_12 c1_i32 k0_t1 k) :=
  have e : ∀ g : Fin 16, ![k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k] g = ![k.val, 0 + 16 * g.val] :=
    all16 (k0_off5_eq k) (k0_off6_eq k) (k0_off7_eq k) (k0_off8_eq k) (k0_off9_eq k) (k0_off10_eq k) (k0_off11_eq k) (k0_off12_eq k) (k0_off13_eq k) (k0_off14_eq k) (k0_off15_eq k) (k0_off16_eq k) (k0_off17_eq k) (k0_off18_eq k) (k0_off19_eq k) (k0_off20_eq k)
  ⟨k0_off4 k, k0_off4_inb k, ![k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k], fun g => (e g).symm ▸ blk_inb k.isLt 0 (by decide) g, k0_off4_eq k, e, fun _ => rfl⟩

theorem t3_trip (i : grid0.Coords) (k0_t1 : Fin k0_t1_loop.trips) (v866 v885 : BitVec 32) (v1090 v1100 v1110 v1120 v1130 v1140 v1150 v1160 : FVec F S16 .f32) (k : Fin k0_t3_loop.trips) :
    IsTrip wt slot0 k.val 256 (k0_t3_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        k0_t1 v866 v885 v1090 v1100 v1110 v1120 v1130 v1140 v1150 v1160 k) :=
  have e : ∀ g : Fin 16, ![k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k] g = ![k.val, 256 + 16 * g.val] :=
    all16 (k0_off23_eq k) (k0_off24_eq k) (k0_off25_eq k) (k0_off26_eq k) (k0_off27_eq k) (k0_off28_eq k) (k0_off29_eq k) (k0_off30_eq k) (k0_off31_eq k) (k0_off32_eq k) (k0_off33_eq k) (k0_off34_eq k) (k0_off35_eq k) (k0_off36_eq k) (k0_off37_eq k) (k0_off38_eq k)
  ⟨k0_off22 k, k0_off22_inb k, ![k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k], fun g => (e g).symm ▸ blk_inb k.isLt 256 (by decide) g, k0_off22_eq k, e, fun _ => rfl⟩

theorem t4_trip (i : grid0.Coords) (k0_t1 : Fin k0_t1_loop.trips) (v866 : BitVec 32) (k : Fin k0_t4_loop.trips) :
    IsTrip wt slot1 k.val 0 (k0_t4_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        k0_t1 v866 k) :=
  have e : ∀ g : Fin 16, ![k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k] g = ![k.val, 0 + 16 * g.val] :=
    all16 (k0_off40_eq k) (k0_off41_eq k) (k0_off42_eq k) (k0_off43_eq k) (k0_off44_eq k) (k0_off45_eq k) (k0_off46_eq k) (k0_off47_eq k) (k0_off48_eq k) (k0_off49_eq k) (k0_off50_eq k) (k0_off51_eq k) (k0_off52_eq k) (k0_off53_eq k) (k0_off54_eq k) (k0_off55_eq k)
  ⟨k0_off39 k, k0_off39_inb k, ![k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k], fun g => (e g).symm ▸ blk_inb k.isLt 0 (by decide) g, k0_off39_eq k, e, fun _ => rfl⟩

theorem t5_trip (i : grid0.Coords) (k0_t1 : Fin k0_t1_loop.trips) (v1552 v1554 : BitVec 32) (v1819 v1829 : FVec F S16 .f32) (k : Fin k0_t5_loop.trips) :
    IsTrip wt slot1 k.val 256 (k0_t5_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        k0_t1 v1552 v1554 v1819 v1829 k) :=
  have e : ∀ g : Fin 16, ![k0_off58 k, k0_off59 k, k0_off60 k, k0_off61 k, k0_off62 k, k0_off63 k, k0_off64 k, k0_off65 k, k0_off66 k, k0_off67 k, k0_off68 k, k0_off69 k, k0_off70 k, k0_off71 k, k0_off72 k, k0_off73 k] g = ![k.val, 256 + 16 * g.val] :=
    all16 (k0_off58_eq k) (k0_off59_eq k) (k0_off60_eq k) (k0_off61_eq k) (k0_off62_eq k) (k0_off63_eq k) (k0_off64_eq k) (k0_off65_eq k) (k0_off66_eq k) (k0_off67_eq k) (k0_off68_eq k) (k0_off69_eq k) (k0_off70_eq k) (k0_off71_eq k) (k0_off72_eq k) (k0_off73_eq k)
  ⟨k0_off57 k, k0_off57_inb k, ![k0_off58 k, k0_off59 k, k0_off60 k, k0_off61 k, k0_off62 k, k0_off63 k, k0_off64 k, k0_off65 k, k0_off66 k, k0_off67 k, k0_off68 k, k0_off69 k, k0_off70 k, k0_off71 k, k0_off72 k, k0_off73 k], fun g => (e g).symm ▸ blk_inb k.isLt 256 (by decide) g, k0_off57_eq k, e, fun _ => rfl⟩

theorem t6_trip (i : grid0.Coords) (v2 c0_i32_12 c30_i32 : BitVec 32) (k : Fin k0_t6_loop.trips) :
    IsTrip wt slot0 k.val 0 (k0_t6_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        v2 c0_i32_12 c30_i32 k) :=
  have e : ∀ g : Fin 16, ![k0_off75 k, k0_off76 k, k0_off77 k, k0_off78 k, k0_off79 k, k0_off80 k, k0_off81 k, k0_off82 k, k0_off83 k, k0_off84 k, k0_off85 k, k0_off86 k, k0_off87 k, k0_off88 k, k0_off89 k, k0_off90 k] g = ![k.val, 0 + 16 * g.val] :=
    all16 (k0_off75_eq k) (k0_off76_eq k) (k0_off77_eq k) (k0_off78_eq k) (k0_off79_eq k) (k0_off80_eq k) (k0_off81_eq k) (k0_off82_eq k) (k0_off83_eq k) (k0_off84_eq k) (k0_off85_eq k) (k0_off86_eq k) (k0_off87_eq k) (k0_off88_eq k) (k0_off89_eq k) (k0_off90_eq k)
  ⟨k0_off74 k, k0_off74_inb k, ![k0_off75 k, k0_off76 k, k0_off77 k, k0_off78 k, k0_off79 k, k0_off80 k, k0_off81 k, k0_off82 k, k0_off83 k, k0_off84 k, k0_off85 k, k0_off86 k, k0_off87 k, k0_off88 k, k0_off89 k, k0_off90 k], fun g => (e g).symm ▸ blk_inb k.isLt 0 (by decide) g, k0_off74_eq k, e, fun _ => rfl⟩

theorem t7_trip (i : grid0.Coords) (v422 v432 v442 v452 v462 v472 v482 v492 v502 v512 v522 v532 v542 v552 : FVec F S16 .f32) (k : Fin k0_t7_loop.trips) :
    IsTrip wt slot0 k.val 256 (k0_t7_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        v422 v432 v442 v452 v462 v472 v482 v492 v502 v512 v522 v532 v542 v552 k) :=
  have e : ∀ g : Fin 16, ![k0_off92 k, k0_off93 k, k0_off94 k, k0_off95 k, k0_off96 k, k0_off97 k, k0_off98 k, k0_off99 k, k0_off100 k, k0_off101 k, k0_off102 k, k0_off103 k, k0_off104 k, k0_off105 k, k0_off106 k, k0_off107 k] g = ![k.val, 256 + 16 * g.val] :=
    all16 (k0_off92_eq k) (k0_off93_eq k) (k0_off94_eq k) (k0_off95_eq k) (k0_off96_eq k) (k0_off97_eq k) (k0_off98_eq k) (k0_off99_eq k) (k0_off100_eq k) (k0_off101_eq k) (k0_off102_eq k) (k0_off103_eq k) (k0_off104_eq k) (k0_off105_eq k) (k0_off106_eq k) (k0_off107_eq k)
  ⟨k0_off91 k, k0_off91_inb k, ![k0_off92 k, k0_off93 k, k0_off94 k, k0_off95 k, k0_off96 k, k0_off97 k, k0_off98 k, k0_off99 k, k0_off100 k, k0_off101 k, k0_off102 k, k0_off103 k, k0_off104 k, k0_off105 k, k0_off106 k, k0_off107 k], fun g => (e g).symm ▸ blk_inb k.isLt 256 (by decide) g, k0_off91_eq k, e, fun _ => rfl⟩

end Cert.Proof.Bucket

end
-- ==== Proof.Stores.lean ====
module

public import proofs.«01_k».proof.Proof.Loops

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A flat buffer filled sixteen entries at a time -/

/-- The first `N` entries are those of `g`. -/
def Upto {n : ℕ} (v : View sig .scVector .vmem ⟨1, ![n]⟩ .f32) (g : ℕ → F .f32) (N : ℕ) (f : v.ty.Contents (Elt F)) : Prop :=
  ∀ y : (⟨1, ![n]⟩ : Shape).Idx, (y 0).val < N → v.read (Elt F) f y = g (y 0).val

/-- One store more, of sixteen entries as asked. -/
theorem upto_put {n : ℕ} (v : View sig .scVector .vmem ⟨1, ![n]⟩ .f32) (g : ℕ → F .f32) (N : ℕ)
    (f : v.ty.Contents (Elt F)) (ws : List (View.Piece (Elt F) ⟨1, ![n]⟩ .f32)) (off : Fin 1 → ℕ)
    (inb : ∀ a : Fin 1, off a + S16.size a ≤ (![n] : Fin 1 → ℕ) a) (p : S16.Idx → F .f32) (hoff : off = ![N]) (hp : ∀ l : S16.Idx, p l = g (N + (l 0).val))
    (h : Upto v g N (v.writes (Elt F) f ws)) :
    Upto v g (N + 16) (v.writes (Elt F) f (⟨Rect.unit (s := ⟨1, ![n]⟩) off S16.size inb, p⟩ :: ws)) := by
  intro y hy
  by_cases hlt : (y 0).val < N
  · exact (View.read_writes_cons_unit_of_not_mem v f inb _ ws y hoff (0 : Fin 1) (.inl hlt)).trans (h y hlt)
  · refine (View.read_writes_cons_unit_of_mem v f inb _ ws y (fun | 0 => ⟨(y 0).val - N, show (y 0).val - N < 16 by omega⟩) hoff ?_).trans ?_
    · exact Fin.forall_fin_one.mpr (show (y 0).val = N + ((y 0).val - N) by omega)
    · refine (hp _).trans ?_
      show g (N + ((y 0).val - N)) = _
      rw [show N + ((y 0).val - N) = (y 0).val by omega]

/-- What sixteen sums store. -/
def bk (w : ℕ → F .f32) (x : ℕ → ℕ → F .f32) (r : ℕ) : S16.Idx → F .f32 := fun l => bucket (accs w x 64 r l)

/-- Row `b + j` of a matrix given by columns. -/
def rowF (w : ℕ → F .f32) (Y : ℕ → ℕ → F .f32) (b j : ℕ) : F .f32 := bucket (acc w (fun d => Y d (b + j)) 64)

theorem upto_zero {n : ℕ} (v : View sig .scVector .vmem ⟨1, ![n]⟩ .f32) (g : ℕ → F .f32) (f : v.ty.Contents (Elt F)) : Upto v g 0 f :=
  fun _ h => absurd h (Nat.not_lt_zero _)

/-- One store more. -/
theorem upto_store {n : ℕ} (v : View sig .scVector .vmem ⟨1, ![n]⟩ .f32) (w : ℕ → F .f32) (Y : ℕ → ℕ → F .f32) (b N m r : ℕ)
    (f : v.ty.Contents (Elt F)) (ws : List (View.Piece (Elt F) ⟨1, ![n]⟩ .f32)) (off : Fin 1 → ℕ)
    (inb : ∀ a : Fin 1, off a + S16.size a ≤ (![n] : Fin 1 → ℕ) a) (hoff : off = ![N]) (hn : m + r = b + N)
    (h : Upto v (rowF w Y b) N (v.writes (Elt F) f ws)) :
    Upto v (rowF w Y b) (N + 16)
      (v.writes (Elt F) f (⟨Rect.unit (s := ⟨1, ![n]⟩) off S16.size inb, bk w (fun d k => Y d (m + k)) r⟩ :: ws)) := by
  refine upto_put v _ N f ws off inb _ hoff (fun l => ?_) h
  show bucket (acc w (fun d => Y d (m + (r + (l 0).val))) 64) = bucket (acc w (fun d => Y d (b + (N + (l 0).val))) 64)
  rw [show m + (r + (l 0).val) = b + (N + (l 0).val) by omega]

/-- Sixteen stores more. -/
theorem upto16 {n : ℕ} (v : View sig .scVector .vmem ⟨1, ![n]⟩ .f32) (w : ℕ → F .f32) (Y : ℕ → ℕ → F .f32) (b N m r : ℕ)
    (f : v.ty.Contents (Elt F)) (off : Fin 16 → Fin 1 → ℕ)
    (inb : ∀ g, ∀ a : Fin 1, off g a + S16.size a ≤ (![n] : Fin 1 → ℕ) a) (hoff : ∀ g : Fin 16, off g = ![N + 16 * g.val]) (hn : m + r = b + N)
    (h : Upto v (rowF w Y b) N f) :
    Upto v (rowF w Y b) (N + 256) (v.writes (Elt F) f
      [⟨Rect.unit (s := ⟨1, ![n]⟩) (off 15) S16.size (inb 15), bk w (fun d k => Y d (m + k)) (r + 240)⟩,
        ⟨Rect.unit (s := ⟨1, ![n]⟩) (off 14) S16.size (inb 14), bk w (fun d k => Y d (m + k)) (r + 224)⟩,
        ⟨Rect.unit (s := ⟨1, ![n]⟩) (off 13) S16.size (inb 13), bk w (fun d k => Y d (m + k)) (r + 208)⟩,
        ⟨Rect.unit (s := ⟨1, ![n]⟩) (off 12) S16.size (inb 12), bk w (fun d k => Y d (m + k)) (r + 192)⟩,
        ⟨Rect.unit (s := ⟨1, ![n]⟩) (off 11) S16.size (inb 11), bk w (fun d k => Y d (m + k)) (r + 176)⟩,
        ⟨Rect.unit (s := ⟨1, ![n]⟩) (off 10) S16.size (inb 10), bk w (fun d k => Y d (m + k)) (r + 160)⟩,
        ⟨Rect.unit (s := ⟨1, ![n]⟩) (off 9) S16.size (inb 9), bk w (fun d k => Y d (m + k)) (r + 144)⟩,
        ⟨Rect.unit (s := ⟨1, ![n]⟩) (off 8) S16.size (inb 8), bk w (fun d k => Y d (m + k)) (r + 128)⟩,
        ⟨Rect.unit (s := ⟨1, ![n]⟩) (off 7) S16.size (inb 7), bk w (fun d k => Y d (m + k)) (r + 112)⟩,
        ⟨Rect.unit (s := ⟨1, ![n]⟩) (off 6) S16.size (inb 6), bk w (fun d k => Y d (m + k)) (r + 96)⟩,
        ⟨Rect.unit (s := ⟨1, ![n]⟩) (off 5) S16.size (inb 5), bk w (fun d k => Y d (m + k)) (r + 80)⟩,
        ⟨Rect.unit (s := ⟨1, ![n]⟩) (off 4) S16.size (inb 4), bk w (fun d k => Y d (m + k)) (r + 64)⟩,
        ⟨Rect.unit (s := ⟨1, ![n]⟩) (off 3) S16.size (inb 3), bk w (fun d k => Y d (m + k)) (r + 48)⟩,
        ⟨Rect.unit (s := ⟨1, ![n]⟩) (off 2) S16.size (inb 2), bk w (fun d k => Y d (m + k)) (r + 32)⟩,
        ⟨Rect.unit (s := ⟨1, ![n]⟩) (off 1) S16.size (inb 1), bk w (fun d k => Y d (m + k)) (r + 16)⟩,
        ⟨Rect.unit (s := ⟨1, ![n]⟩) (off 0) S16.size (inb 0), bk w (fun d k => Y d (m + k)) r⟩]) := by
  have S := fun (g : Fin 16) ws => upto_store v w Y b (N + 16 * g.val) m (r + 16 * g.val) f ws (off g) (inb g) (hoff g) (by omega)
  exact S 15 _ (S 14 _ (S 13 _ (S 12 _ (S 11 _ (S 10 _ (S 9 _ (S 8 _ (S 7 _ (S 6 _ (S 5 _ (S 4 _ (S 3 _ (S 2 _ (S 1 _ (S 0 _ (h))))))))))))))))

/-- A buffer's contents named. -/
theorem pts_name {ℓ : Loc nD τ sig} {I : Finset (Idx ℓ)} {q : PosShare TreeShare} {f : Buf (Elt F) ℓ} :
    (ℓ ↦[I]{q} f : sProp 𝕄) ⊢ iprop(∃ f', ⌜f' = f⌝ ∗ ℓ ↦[I]{q} f') := by
  iintro H
  iexists f
  isplitr
  · ipureintro; rfl
  · iexact H

end Cert.Proof.Bucket

end
-- ==== Proof.Pair.lean ====
module

public import proofs.«01_k».proof.Proof.Stores

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

abbrev cV (L : grid0.Coords) : Fin τ.nSC := (L 0).castLE hcore0
abbrev jV (L : grid0.Coords) : Fin τ.nSub := (L 1).castLE hsub0

/-- The first of a tile's rows. -/
def base (i : grid0.Coords) : ℕ := 62464 * (i 1).val + 31232 * (i 0).val

/-- The transposed matrix, by column and row. -/
def colsOf (X : S64x1000000.Idx → F .f32) (d n : ℕ) : F .f32 := X (xIx d n)

/-- The columns `n … n + 511` of the transposed `x`. -/
abbrev blk (o : Fin 2 → ℕ) (h : ∀ a, o a + S64x512.size a ≤ S64x1000000.size a) : Memref sig .scVector .hbm S64x512 .f32 :=
  (xtV).slice (Rect.unit (s := S64x1000000) o S64x512.size h) (fun _ => rfl)

/-- What a copied block reads. -/
theorem blk_read (X : S64x1000000.Idx → F .f32) (o : Fin 2 → ℕ) (h : ∀ a, o a + S64x512.size a ≤ S64x1000000.size a) (n : ℕ) (ho : o = ![0, n])
    (e : ℕ) (he : e < 64) (r : ℕ) (hr : r < 512) : (blk o h).view.read (Elt F) X (bIx e r) = colsOf X e (n + r) := by
  subst ho
  have h1 : n + 512 ≤ 1000000 := h 1
  refine congrArg X (funext fun a => ?_)
  match a with
  | 0 => refine Fin.ext ?_; show 0 + 1 * (e % 64) = e % 64; omega
  | 1 => refine Fin.ext ?_; show n + 1 * (r % 512) = (n + r) % 1000000; omega

/-- A block lent out of a share of the whole, and put back. -/
theorem take_blk (d : Dev nD) (c : Fin τ.nSC) (j : Fin τ.nSub) (q : PosShare TreeShare) (X : S64x1000000.Idx → F .f32)
    (o : Fin 2 → ℕ) (h : ∀ a, o a + S64x512.size a ≤ S64x1000000.size a) :
    ((xtV).view.loc (V d c j) ↦[Finset.univ]{q} X : sProp 𝕄)
      ⊢ iprop(((blk o h).view.loc (V d c j) ↦[(blk o h).view.set]{q} X) ∗ ((xtV).view.loc (V d c j) ↦[Finset.univ \ (blk o h).view.set]{q} X)) :=
  (pointsTo_split_subset (Finset.subset_univ _)).1

theorem give_blk (d : Dev nD) (c : Fin τ.nSC) (j : Fin τ.nSub) (q : PosShare TreeShare) (X : S64x1000000.Idx → F .f32)
    (o : Fin 2 → ℕ) (h : ∀ a, o a + S64x512.size a ≤ S64x1000000.size a) :
    iprop(((blk o h).view.loc (V d c j) ↦[(blk o h).view.set]{q} X) ∗ ((xtV).view.loc (V d c j) ↦[Finset.univ \ (blk o h).view.set]{q} X))
      ⊢ ((xtV).view.loc (V d c j) ↦[Finset.univ]{q} X : sProp 𝕄) :=
  (pointsTo_split_subset (Finset.subset_univ _)).2

/-- Entries of a block are those of the columns from `n`. -/
def Holds (slot : Memref sig .scVector .vmem S64x512 .f32) (f : slot.view.ty.Contents (Elt F)) (Y : ℕ → ℕ → F .f32) (n : ℕ) : Prop :=
  ∀ e, e < 64 → ∀ r, r < 512 → slot.view.read (Elt F) f (bIx e r) = Y e (n + r)

theorem holds_copy (slot : Memref sig .scVector .vmem S64x512 .f32) (f : slot.view.ty.Contents (Elt F)) (X : S64x1000000.Idx → F .f32)
    (o : Fin 2 → ℕ) (h : ∀ a, o a + S64x512.size a ≤ S64x1000000.size a) (n : ℕ) (ho : o = ![0, n]) :
    Holds slot (slot.view.writes (Elt F) f [⟨Rect.whole S64x512, (blk o h).view.read (Elt F) X⟩]) (colsOf X) n := by
  intro e he r hr
  rw [View.read_writes_whole]
  exact blk_read X o h n ho e he r hr

/-- Between pairs of blocks. -/
def pairInv (d : Dev nD) (i : grid0.Coords) (O : CellTallies nD τ sig (HIx 1)) (W : Waits sig (HIx 1)) (qa qb : PosShare TreeShare)
    (X : S64x1000000.Idx → F .f32) (ft : S1024.Idx → F .f32) (w : ℕ → F .f32) (p : ℕ) : sProp 𝕄 :=
  iprop(Transfers.MayWaits (V d (cV i) (jV i)) (default : HIx 1) O
    ∗ ((wt).view.loc (V d (cV i) (jV i)) ↦[(wt).view.set]{fullShare} ft)
    ∗ (∃ (o : Fin 2 → ℕ) (h : ∀ a, o a + S64x512.size a ≤ S64x1000000.size a) (f0 : S2x64x512.Idx → F .f32),
        ⌜Holds slot0 f0 (colsOf X) (base i + 1024 * p)⌝
        ∗ Transfers.Flight countersEmb (V d (cV i) (jV i)) (.dma cc0_scratch7.sem) (default : HIx 1) 1048576
            iprop((slot0.view.loc (V d (cV i) (jV i)) ↦[slot0.view.set]{fullShare} f0)
              ∗ ((blk o h).view.loc (V d (cV i) (jV i)) ↦[(blk o h).view.set]{qa} X))
        ∗ ((xtV).view.loc (V d (cV i) (jV i)) ↦[Finset.univ \ (blk o h).view.set]{qa} X))
    ∗ semVal (V d (cV i) (jV i), SemLoc.dma cc0_scratch8.sem) 0
    ∗ (∃ f1, (slot1.view.loc (V d (cV i) (jV i)) ↦[slot1.view.set]{fullShare} f1))
    ∗ ((xtV).view.loc (V d (cV i) (jV i)) ↦[Finset.univ]{qb} X)
    ∗ (∃ fo, ⌜Upto (ob).view (rowF w (colsOf X) (base i)) (1024 * p) fo⌝ ∗ ((ob).view.loc (V d (cV i) (jV i)) ↦{fullShare} fo))
    ∗ ∃ W', ⌜∀ p ∈ W', p ∈ W ∨ p.2 = none⌝ ∗ owes (V d (cV i) (jV i)) O W')

set_option maxHeartbeats 4000000 in
theorem pair_region (d : Dev nD) (i : grid0.Coords) (t1 : Fin k0_t1_loop.trips) (v2 c0 c1 : BitVec 32)
    (O : CellTallies nD τ sig (HIx 1)) (W : Waits sig (HIx 1)) (qa qb : PosShare TreeShare)
    (X : S64x1000000.Idx → F .f32) (ft : S1024.Idx → F .f32)
    (w : ℕ → F .f32) (hw : ∀ k, k < 64 → ∀ l : S16.Idx, (wt).view.read (Elt F) ft (tIx (16 * k + (l 0).val)) = w k) (u : Unit) :
    pairInv d i O W qa qb X ft w t1.val ⊢ (wp frame (wpE (defs₀ (F := F)) 𝒱₀ (V d (cV i) (jV i)) none) Set.univ
      (k0_t1_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5
        v2 c0 c1 t1 u) fun _ => pairInv d i O W qa qb X ft w (t1.val + 1) : sProp 𝕄) := by
  unfold pairInv
  generalize hY : colsOf X = Y
  iintro ⟨Hmw, Ht, ⟨%o, %h, %f0, %hf0, Hfa, Hxr⟩, Hsb, ⟨%f1, H1⟩, Hxb, ⟨%fo, %hU0, Ho⟩, %W', %hW', HO⟩
  ihave Hxb := (take_blk _ _ _ _ _ (k0_off2 i t1 1#32) (k0_off2_inb i t1 0)) $$ Hxb
  icases Hxb with ⟨Hxs, Hxb⟩
  unfold k0_t1_body
  rw [k0_part9_eq_skeleton]; unfold k0_part9_skel
  sl_exec
  rw [wp_bind]
  sl_for (tripInv d (cV i) (jV i) w (fun e r => Y e ((base i + 1024 * t1.val) + r)) wt ft slot0 f0 0) $$ [Ht Hfa_dst]
  case region => exact fun k a => trip_region d w _ wt ft slot0 f0 k.val 0 (hw k.val k.isLt) (hf0 k.val k.isLt) _ (t2_trip i _ _ _ _ k) a
  · unfold tripInv
    isplitr
    · ipureintro; rfl
    isplitl [Ht]
    · iexact Ht
    · iexact Hfa_dst
  iintro %a HI
  unfold tripInv
  icases HI with ⟨%ha, Ht, Hfa_dst⟩
  subst ha
  unfold sums16
  rw [k0_part10_eq_skeleton, k0_part11_eq_skeleton, k0_part12_eq_skeleton, k0_part13_eq_skeleton, k0_part14_eq_skeleton, k0_part15_eq_skeleton, k0_part16_eq_skeleton, k0_part17_eq_skeleton]
  unfold k0_part10_skel k0_part11_skel k0_part12_skel k0_part13_skel k0_part14_skel k0_part15_skel k0_part16_skel k0_part17_skel
  sl_exec
  ihave Ho := pts_name $$ Ho
  icases Ho with ⟨%fo1, %hfo1, Ho⟩
  have hU1 : Upto (ob).view (rowF w Y (base i)) (1024 * t1.val + 256) fo1 := by
    rw [hfo1]
    exact upto16 (ob).view w Y (base i) (1024 * t1.val + 0) (base i + 1024 * t1.val) 0 _ (fun g => k0_off21 t1 0#32 (BitVec.ofNat 32 (16 * g.val))) (fun g => k0_off21_inb t1 0 g)
      (fun g => (k0_off21_eq t1 0 g)) (by omega) hU0
  clear hfo1
  rw [wp_bind]
  sl_for (tripInv d (cV i) (jV i) w (fun e r => Y e ((base i + 1024 * t1.val) + r)) wt ft slot0 f0 256) $$ [Ht Hfa_dst]
  case region => exact fun k a => trip_region d w _ wt ft slot0 f0 k.val 256 (hw k.val k.isLt) (hf0 k.val k.isLt) _ (t3_trip i _ _ _ _ _ _ _ _ _ _ _ k) a
  · unfold tripInv
    isplitr
    · ipureintro; rfl
    isplitl [Ht]
    · iexact Ht
    · iexact Hfa_dst
  iintro %a HI
  unfold tripInv
  icases HI with ⟨%ha, Ht, Hfa_dst⟩
  subst ha
  unfold sums16
  ihave Hxa := (take_blk _ _ _ _ _ (k0_off2 i t1 2#32) (k0_off2_inb i t1 1)) $$ Hxr
  icases Hxa with ⟨Hxc, Hxa⟩
  rw [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part18_skel k0_part19_skel k0_part20_skel k0_part21_skel k0_part22_skel k0_part23_skel k0_part24_skel k0_part25_skel k0_part26_skel
  sl_exec
  ihave Ho := pts_name $$ Ho
  icases Ho with ⟨%fo2, %hfo2, Ho⟩
  have hU2 : Upto (ob).view (rowF w Y (base i)) (1024 * t1.val + 512) fo2 := by
    rw [hfo2]
    exact upto16 (ob).view w Y (base i) (1024 * t1.val + 256) (base i + 1024 * t1.val) 256 _ (fun g => k0_off21 t1 256#32 (BitVec.ofNat 32 (16 * g.val))) (fun g => k0_off21_inb t1 1 g)
      (fun g => (k0_off21_eq t1 1 g)) (by omega) hU1
  clear hfo2
  ihave H1 := pts_name $$ H1
  icases H1 with ⟨%f1', %hf1', H1⟩
  have hf1 : Holds slot1 f1' Y (base i + 1024 * t1.val + 512) := by
    rw [hf1', ← hY]
    exact holds_copy slot1 f1 X (k0_off2 i t1 1#32) (k0_off2_inb i t1 0) _ ((k0_off2_eq i t1 0).trans (by unfold base; congr 2))
  clear hf1'
  rw [wp_bind]
  sl_for (tripInv d (cV i) (jV i) w (fun e r => Y e (base i + 1024 * t1.val + 512 + r)) wt ft slot1 f1' 0) $$ [Ht H1]
  case region => exact fun k a => trip_region d w _ wt ft slot1 f1' k.val 0 (hw k.val k.isLt) (hf1 k.val k.isLt) _ (t4_trip i _ _ k) a
  · unfold tripInv
    isplitr
    · ipureintro; rfl
    isplitl [Ht]
    · iexact Ht
    · iexact H1
  iintro %a HI
  unfold tripInv
  icases HI with ⟨%ha, Ht, H1⟩
  subst ha
  unfold sums16
  rw [k0_part27_eq_skeleton, k0_part28_eq_skeleton, k0_part29_eq_skeleton, k0_part30_eq_skeleton, k0_part31_eq_skeleton, k0_part32_eq_skeleton, k0_part33_eq_skeleton, k0_part34_eq_skeleton]
  unfold k0_part27_skel k0_part28_skel k0_part29_skel k0_part30_skel k0_part31_skel k0_part32_skel k0_part33_skel k0_part34_skel
  sl_exec
  ihave Ho := pts_name $$ Ho
  icases Ho with ⟨%fo3, %hfo3, Ho⟩
  have hU3 : Upto (ob).view (rowF w Y (base i)) (1024 * t1.val + 768) fo3 := by
    rw [hfo3]
    exact upto16 (ob).view w Y (base i) (1024 * t1.val + 512) (base i + 1024 * t1.val + 512) 0 _ (fun g => k0_off56 t1 0#32 (BitVec.ofNat 32 (16 * g.val))) (fun g => k0_off56_inb t1 0 g)
      (fun g => (k0_off56_eq t1 0 g).trans (congrArg (fun n => ![n]) (show 1024 * t1.val + 256 * 0 + 16 * g.val + 512 = _ by omega))) (by omega) hU2
  clear hfo3
  rw [wp_bind]
  sl_for (tripInv d (cV i) (jV i) w (fun e r => Y e (base i + 1024 * t1.val + 512 + r)) wt ft slot1 f1' 256) $$ [Ht H1]
  case region => exact fun k a => trip_region d w _ wt ft slot1 f1' k.val 256 (hw k.val k.isLt) (hf1 k.val k.isLt) _ (t5_trip i _ _ _ _ _ k) a
  · unfold tripInv
    isplitr
    · ipureintro; rfl
    isplitl [Ht]
    · iexact Ht
    · iexact H1
  iintro %a HI
  unfold tripInv
  icases HI with ⟨%ha, Ht, H1⟩
  subst ha
  unfold sums16
  rw [k0_part35_eq_skeleton, k0_part36_eq_skeleton, k0_part37_eq_skeleton, k0_part38_eq_skeleton, k0_part39_eq_skeleton, k0_part40_eq_skeleton, k0_part41_eq_skeleton]
  unfold k0_part35_skel k0_part36_skel k0_part37_skel k0_part38_skel k0_part39_skel k0_part40_skel k0_part41_skel
  sl_exec
  ihave Ho := pts_name $$ Ho
  icases Ho with ⟨%fo4, %hfo4, Ho⟩
  have hU4 : Upto (ob).view (rowF w Y (base i)) (1024 * t1.val + 1024) fo4 := by
    rw [hfo4]
    exact upto16 (ob).view w Y (base i) (1024 * t1.val + 768) (base i + 1024 * t1.val + 512) 256 _ (fun g => k0_off56 t1 256#32 (BitVec.ofNat 32 (16 * g.val))) (fun g => k0_off56_inb t1 1 g)
      (fun g => (k0_off56_eq t1 1 g).trans (congrArg (fun n => ![n]) (show 1024 * t1.val + 256 * 1 + 16 * g.val + 512 = _ by omega))) (by omega) hU3
  clear hfo4
  sl_step
  isplitl [Hmw]
  · iexact Hmw
  isplitl [Ht]
  · iexact Ht
  isplitl [Hfa Hxa]
  · iexists (k0_off2 i t1 2#32), (k0_off2_inb i t1 1),
      (slot0.view.writes (Elt F) f0 [⟨Rect.whole S64x512, (blk (k0_off2 i t1 2#32) (k0_off2_inb i t1 1)).view.read (Elt F) X⟩])
    isplitr
    · ipureintro
      rw [← hY]
      exact holds_copy slot0 f0 X (k0_off2 i t1 2#32) (k0_off2_inb i t1 1) _ ((k0_off2_eq i t1 1).trans
        (congrArg (fun n => ![0, n]) (show 62464 * (i 1).val + 31232 * (i 0).val + 1024 * t1.val + 512 * 1 + 512 = _ by unfold base; omega)))
    isplitl [Hfa]
    · iexact Hfa
    · iexact Hxa
  isplitl [Hsb]
  · iexact Hsb
  isplitl [H1]
  · iexists f1'
    iexact H1
  isplitl [Hxb]
  · iexact Hxb
  isplitl [Ho]
  · iexists fo4
    isplitr
    · ipureintro; exact hU4
    · iexact Ho
  iexists _
  isplitr
  on_goal 2 => iexact HO
  ipureintro
  intro p hp
  rcases Finset.mem_insert.mp hp with rfl | hp
  · exact .inr rfl
  rcases Finset.mem_insert.mp hp with rfl | hp
  · exact .inr rfl
  exact hW' p hp

end Cert.Proof.Bucket

end
-- ==== Proof.Tails.lean ====
module

public import proofs.«01_k».proof.Proof.Pair

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

/-! ## The rows left over: 128 for each of four tiles, 64 for a fifth -/

/-- Entry `(e, r)` of the leftover block. -/
def rIx (e r : ℕ) : S64x128.Idx := fun | 0 => ⟨e % 64, Nat.mod_lt _ (by decide)⟩ | 1 => ⟨r % 128, Nat.mod_lt _ (by decide)⟩

theorem read_rest (f : S64x128.Idx → F .f32) (o : Fin 2 → ℕ) (inb : ∀ a, o a + S1x16.size a ≤ S64x128.size a) (e r : ℕ) (ho : o = ![e, r]) :
    (shapeCast S16 ((tb).view.readAt (Elt F) (Rect.unit (s := S64x128) o S1x16.size inb).toLoadRect f : S1x16.Idx → F .f32) shapeCasts_S1x16_S16)
      = fun l => (tb).view.read (Elt F) f (rIx e (r + (l 0).val)) := by
  subst ho; funext l
  unfold shapeCast
  rw [show Shape.reshapeEquiv _ l = _ from Shape.reshapeEquiv_cons_one (d := ![16]) _ l]
  refine congrArg ((tb).view.read (Elt F) f) (funext fun a => ?_)
  match a with
  | 0 =>
    have h1 : e + 1 ≤ 64 := inb 0
    refine Fin.ext ?_
    show e + 1 * 0 = e % 64
    rw [Nat.mod_eq_of_lt (by omega)]; omega
  | 1 =>
    have h1 : r + 16 ≤ 128 := inb 1
    have h2 : (l 0).val < 16 := (l 0).isLt
    refine Fin.ext ?_
    show r + 1 * (l 0).val = (r + (l 0).val) % 128
    rw [Nat.mod_eq_of_lt (by omega)]; omega

theorem step8_eq (w : ℕ → F .f32) (x : ℕ → ℕ → F .f32) (ft : S1024.Idx → F .f32) (f : S64x128.Idx → F .f32)
    (k : ℕ) (ht : ∀ l : S16.Idx, (wt).view.read (Elt F) ft (tIx (16 * k + (l 0).val)) = w k)
    (hx : ∀ r, r < 128 → (tb).view.read (Elt F) f (rIx k r) = x k r)
    (oT : Fin 1 → ℕ) (inbT : ∀ a, oT a + S16.size a ≤ S1024.size a) (hoT : oT = ![16 * k])
    (o : Fin 2 → ℕ) (inb : ∀ a, o a + S1x16.size a ≤ S64x128.size a) (r : ℕ) (ho : o = ![k, r]) :
    step (accs w x k r) ((wt).view.readAt (Elt F) (Rect.unit (s := S1024) oT S16.size inbT).toLoadRect ft)
        ((tb).view.readAt (Elt F) (Rect.unit (s := S64x128) o S1x16.size inb).toLoadRect f)
      = accs w x (k + 1) r := by
  rw [accs_succ]
  unfold step
  rw [read_rest f o inb k r ho, read_tab wt ft oT inbT (16 * k) hoT]
  have hr : r + 16 ≤ 128 := by subst ho; exact inb 1
  refine funext fun l => ?_
  have hl : (l 0).val < 16 := (l 0).isLt
  show FloatOps.addf _ (FloatOps.mulf _ _) = FloatOps.addf _ (FloatOps.mulf _ _)
  beta_reduce; rw [ht, hx _ (by omega)]

/-- Eight vectors of running sums. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

def sums8 (w : ℕ → F .f32) (x : ℕ → ℕ → F .f32) (k : ℕ) : Acc8 F :=
  (accs w x k 0, accs w x k 16, accs w x k 32, accs w x k 48, accs w x k 64, accs w x k 80, accs w x k 96, accs w x k 112)

/-- Between the trips over a leftover block. -/
def restInv (d : Dev nD) (c : Fin τ.nSC) (j : Fin τ.nSub) (w : ℕ → F .f32) (x : ℕ → ℕ → F .f32) (ft : S1024.Idx → F .f32) (f : S64x128.Idx → F .f32)
    (k : ℕ) (a : Acc8 F) : sProp 𝕄 :=
  iprop(⌜a = sums8 w x k⌝ ∗ ((wt).view.loc (V d c j) ↦[(wt).view.set]{fullShare} ft) ∗ ((tb).view.loc (V d c j) ↦[(tb).view.set]{fullShare} f))

set_option maxHeartbeats 1000000 in
theorem rest_region (d : Dev nD) (i : grid0.Coords) (v1 : BitVec 32) (h1 : k0_cond1 i = 1#1) (w : ℕ → F .f32) (x : ℕ → ℕ → F .f32)
    (ft : S1024.Idx → F .f32) (f : S64x128.Idx → F .f32) (k : Fin k0_t8_loop.trips)
    (ht : ∀ l : S16.Idx, (wt).view.read (Elt F) ft (tIx (16 * k.val + (l 0).val)) = w k.val)
    (hx : ∀ r, r < 128 → (tb).view.read (Elt F) f (rIx k.val r) = x k.val r) (a : Acc8 F) :
    restInv d (cV i) (jV i) w x ft f k.val a
      ⊢ wp frame (wpE (defs₀ (F := F)) 𝒱₀ (V d (cV i) (jV i)) none) Set.univ
        (k0_t8_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5 v1 h1 k a) (restInv d (cV i) (jV i) w x ft f (k.val + 1)) := by
  unfold restInv
  iintro ⟨%ha, Ht, Hb⟩
  subst ha
  unfold k0_t8_body sums8
  sl_exec
  sl_step
  isplitr
  · ipureintro
    have S := fun (o : Fin 2 → ℕ) inb r ho => step8_eq w x ft f k.val ht hx _ (k0_off110_inb i k h1) (k0_off110_eq k) o inb r ho
    exact Prod.ext (S _ (k0_off111_inb i k h1) 0 (k0_off111_eq k)) (Prod.ext (S _ (k0_off112_inb i k h1) 16 (k0_off112_eq k)) (Prod.ext (S _ (k0_off113_inb i k h1) 32 (k0_off113_eq k)) (Prod.ext (S _ (k0_off114_inb i k h1) 48 (k0_off114_eq k)) (Prod.ext (S _ (k0_off115_inb i k h1) 64 (k0_off115_eq k)) (Prod.ext (S _ (k0_off116_inb i k h1) 80 (k0_off116_eq k)) (Prod.ext (S _ (k0_off117_inb i k h1) 96 (k0_off117_eq k)) (S _ (k0_off118_inb i k h1) 112 (k0_off118_eq k))))))))
  isplitl [Ht]
  · iexact Ht
  · iexact Hb

theorem read_last (f : S4096.Idx → F .f32) (o : Fin 1 → ℕ) (inb : ∀ a, o a + S16.size a ≤ S4096.size a) (k : ℕ) (ho : o = ![k]) :
    ((lb).view.readAt (Elt F) (Rect.unit (s := S4096) o S16.size inb).toLoadRect f : S16.Idx → F .f32)
      = fun l => (lb).view.read (Elt F) f (lIx (k + (l 0).val)) := by
  subst ho; funext l
  refine congrArg ((lb).view.read (Elt F) f) (funext fun a => ?_)
  match a with
  | 0 =>
    have h1 : k + 16 ≤ 4096 := inb 0
    have h2 : (l 0).val < 16 := (l 0).isLt
    refine Fin.ext ?_
    show k + 1 * (l 0).val = (k + (l 0).val) % 4096
    rw [Nat.mod_eq_of_lt (by omega)]; omega

theorem step4_eq (w : ℕ → F .f32) (x : ℕ → ℕ → F .f32) (ft : S1024.Idx → F .f32) (f : S4096.Idx → F .f32)
    (k : ℕ) (ht : ∀ l : S16.Idx, (wt).view.read (Elt F) ft (tIx (16 * k + (l 0).val)) = w k)
    (hx : ∀ r, r < 64 → (lb).view.read (Elt F) f (lIx (64 * k + r)) = x k r)
    (oT : Fin 1 → ℕ) (inbT : ∀ a, oT a + S16.size a ≤ S1024.size a) (hoT : oT = ![16 * k])
    (o : Fin 1 → ℕ) (inb : ∀ a, o a + S16.size a ≤ S4096.size a) (r : ℕ) (hr : r ≤ 48) (ho : o = ![64 * k + r]) :
    addf (accs w x k r) (mulf ((lb).view.readAt (Elt F) (Rect.unit (s := S4096) o S16.size inb).toLoadRect f : S16.Idx → F .f32)
        ((wt).view.readAt (Elt F) (Rect.unit (s := S1024) oT S16.size inbT).toLoadRect ft))
      = accs w x (k + 1) r := by
  rw [accs_succ, read_last f o inb _ ho, read_tab wt ft oT inbT (16 * k) hoT]
  refine funext fun l => ?_
  have hl : (l 0).val < 16 := (l 0).isLt
  show FloatOps.addf _ (FloatOps.mulf _ _) = FloatOps.addf _ (FloatOps.mulf _ _)
  beta_reduce; rw [ht, Nat.add_assoc, hx _ (by omega)]

/-- Four vectors of running sums. -/
abbrev Acc4 (F : FTy → Type) : Type := FVec F S16 .f32 × FVec F S16 .f32 × FVec F S16 .f32 × FVec F S16 .f32

def sums4 (w : ℕ → F .f32) (x : ℕ → ℕ → F .f32) (k : ℕ) : Acc4 F := (accs w x k 0, accs w x k 16, accs w x k 32, accs w x k 48)

/-- Between the trips over the last rows. -/
def lastInv (d : Dev nD) (c : Fin τ.nSC) (j : Fin τ.nSub) (w : ℕ → F .f32) (x : ℕ → ℕ → F .f32) (ft : S1024.Idx → F .f32) (f : S4096.Idx → F .f32)
    (k : ℕ) (a : Acc4 F) : sProp 𝕄 :=
  iprop(⌜a = sums4 w x k⌝ ∗ ((wt).view.loc (V d c j) ↦[(wt).view.set]{fullShare} ft) ∗ ((lb).view.loc (V d c j) ↦[(lb).view.set]{fullShare} f))

set_option maxHeartbeats 1000000 in
theorem last_region (d : Dev nD) (i : grid0.Coords) (h2 : k0_cond2 i = 1#1) (w : ℕ → F .f32) (x : ℕ → ℕ → F .f32)
    (ft : S1024.Idx → F .f32) (f : S4096.Idx → F .f32) (k : Fin k0_t9_loop.trips)
    (ht : ∀ l : S16.Idx, (wt).view.read (Elt F) ft (tIx (16 * k.val + (l 0).val)) = w k.val)
    (hx : ∀ r, r < 64 → (lb).view.read (Elt F) f (lIx (64 * k.val + r)) = x k.val r) (a : Acc4 F) :
    lastInv d (cV i) (jV i) w x ft f k.val a
      ⊢ wp frame (wpE (defs₀ (F := F)) 𝒱₀ (V d (cV i) (jV i)) none) Set.univ
        (k0_t9_body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5 h2 k a) (lastInv d (cV i) (jV i) w x ft f (k.val + 1)) := by
  unfold lastInv
  iintro ⟨%ha, Ht, Hb⟩
  subst ha
  unfold k0_t9_body sums4
  sl_exec
  sl_step
  isplitr
  · ipureintro
    have S := fun (r : Fin 4) => step4_eq w x ft f k.val ht hx _ (k0_off120_inb i k h2) (k0_off120_eq k) _ (k0_off121_inb i k h2 r) (16 * r.val) (by omega) (k0_off121_eq k r)
    exact Prod.ext (S 0) (Prod.ext (S 1) (Prod.ext (S 2) (S 3)))
  isplitl [Ht]
  · iexact Ht
  · iexact Hb

end Cert.Proof.Bucket

end
-- ==== Proof.Out.lean ====
module

public import proofs.«01_k».proof.Proof.Tails
public import Idealize.ShloMosaic.Lib.ViewIndex

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

/-! ## Stretches of the result -/

theorem mem_osl (o sz : Fin 1 → ℕ) (h : ∀ a : Fin 1, o a + sz a ≤ S1000000.size a) (y : S1000000.Idx) :
    y ∈ ((oV).view.slice (Rect.unit (s := S1000000) o sz h)).set ↔ o 0 ≤ (y 0).val ∧ (y 0).val < o 0 + sz 0 := by
  constructor
  · intro hy
    obtain ⟨x, rfl⟩ := View.exists_of_mem_set_slice hy
    have hx : (x 0).val < sz 0 := (x 0).isLt
    show o 0 ≤ o 0 + 1 * (x 0).val ∧ o 0 + 1 * (x 0).val < o 0 + sz 0
    omega
  · rintro ⟨h1, h2⟩
    let x : (Rect.unit (s := S1000000) o sz h).shape.Idx := fun | 0 => ⟨(y 0).val - o 0, show (y 0).val - o 0 < sz 0 by omega⟩
    have hx : ((oV).view.slice (Rect.unit (s := S1000000) o sz h)).emb x = y := by
      funext a
      match a with
      | 0 => refine Fin.ext ?_; show o 0 + 1 * ((y 0).val - o 0) = (y 0).val; omega
    rw [← hx]
    exact View.emb_mem_set _ _

/-- What a stretch copied out holds. -/
theorem osl_copied (o sz : Fin 1 → ℕ) (h : ∀ a : Fin 1, o a + sz a ≤ S1000000.size a) (f : S1000000.Idx → F .f32)
    (p : (⟨1, sz⟩ : Shape).Idx → F .f32) (g : ℕ → F .f32)
    (hp : ∀ x : (⟨1, sz⟩ : Shape).Idx, p x = g (o 0 + (x 0).val)) :
    ∀ y ∈ ((oV).view.slice (Rect.unit (s := S1000000) o sz h)).set,
      ((oV).view.slice (Rect.unit (s := S1000000) o sz h)).writes (Elt F) f [⟨Rect.whole ⟨1, sz⟩, p⟩] y = g (y 0).val := by
  intro y hy
  obtain ⟨x, rfl⟩ := View.exists_of_mem_set_slice hy
  have e := congrFun (View.read_writes_whole ((oV).view.slice (Rect.unit (s := S1000000) o sz h)) (Val := Elt F) f p) x
  refine e.trans ((hp x).trans (congrArg g ?_))
  show o 0 + (x 0).val = o 0 + 1 * (x 0).val
  omega

/-- A tile's number. -/
def wid (i : grid0.Coords) : ℕ := 2 * (i 1).val + (i 0).val

/-- The entries of the result a tile writes. -/
def outSet (i : grid0.Coords) : Finset S1000000.Idx :=
  Finset.univ.filter fun y => (base i ≤ (y 0).val ∧ (y 0).val < base i + 31232)
    ∨ (wid i < 4 ∧ 999424 + 128 * wid i ≤ (y 0).val ∧ (y 0).val < 999424 + 128 * wid i + 128) ∨ (wid i = 4 ∧ 999936 ≤ (y 0).val)

theorem cond1_iff : ∀ i : grid0.Coords, k0_cond1 i = 1#1 ↔ 2 * (i 1).val + (i 0).val < 4 := by decide +kernel
theorem cond2_iff : ∀ i : grid0.Coords, k0_cond2 i = 1#1 ↔ 2 * (i 1).val + (i 0).val = 4 := by decide +kernel

/-- The long stretch of a tile. -/
abbrev mainSet (i : grid0.Coords) : Finset S1000000.Idx := ((oV).view.slice (Rect.unit (s := S1000000) (k0_off108 i) S31232.size (k0_off108_inb i))).set

theorem mem_main (i : grid0.Coords) (y : S1000000.Idx) : y ∈ mainSet i ↔ base i ≤ (y 0).val ∧ (y 0).val < base i + 31232 := by
  refine (mem_osl _ _ _ y).trans ?_
  rw [k0_off108_eq]; rfl

theorem main_subset (i : grid0.Coords) : mainSet i ⊆ outSet i := fun y hy =>
  Finset.mem_filter.mpr ⟨Finset.mem_univ _, .inl ((mem_main i y).mp hy)⟩

theorem base_le (i : grid0.Coords) : base i + 31232 ≤ 999424 := by
  have h0 : (i 0).val < 2 := (i 0).isLt
  have h1 : (i 1).val < 16 := (i 1).isLt
  unfold base; omega

theorem rest_wide (i : grid0.Coords) (h1 : k0_cond1 i = 1#1) :
    outSet i \ mainSet i = ((oV).view.slice (Rect.unit (s := S1000000) (k0_off119 i) S128.size (k0_off119_inb i h1))).set := by
  have hw := (cond1_iff i).mp h1
  have hb := base_le i
  ext y
  rw [Finset.mem_sdiff, mem_main, mem_osl, k0_off119_eq]
  have e : (y ∈ outSet i) ↔ _ := Finset.mem_filter
  rw [e]
  unfold wid
  show _ ↔ 256 * (i 1).val + 128 * (i 0).val + 999424 ≤ (y 0).val ∧ (y 0).val < 256 * (i 1).val + 128 * (i 0).val + 999424 + 128
  simp only [Finset.mem_univ, true_and]
  omega

theorem rest_last (i : grid0.Coords) (h2 : k0_cond2 i = 1#1) :
    outSet i \ mainSet i = ((oV).view.slice (Rect.unit (s := S1000000) ![999936] S64.size inb_S1000000_S64_999936)).set := by
  have hw := (cond2_iff i).mp h2
  have hb := base_le i
  ext y
  rw [Finset.mem_sdiff, mem_main, mem_osl]
  have e : (y ∈ outSet i) ↔ _ := Finset.mem_filter
  rw [e]
  unfold wid
  have hy : (y 0).val < 1000000 := (y 0).isLt
  show _ ↔ 999936 ≤ (y 0).val ∧ (y 0).val < 999936 + 64
  simp only [Finset.mem_univ, true_and]
  omega

theorem rest_none (i : grid0.Coords) (h1 : ¬ k0_cond1 i = 1#1) (h2 : ¬ k0_cond2 i = 1#1) (y : S1000000.Idx) : y ∉ outSet i \ mainSet i := by
  rw [cond1_iff] at h1
  rw [cond2_iff] at h2
  have e : (y ∈ outSet i) ↔ _ := Finset.mem_filter
  rw [Finset.mem_sdiff, mem_main, e]
  unfold wid
  simp only [Finset.mem_univ, true_and]
  omega

/-- Row `n` of the result. -/
def rowAt (w : ℕ → F .f32) (Y : ℕ → ℕ → F .f32) (n : ℕ) : F .f32 := bucket (acc w (fun d => Y d n) 64)

/-- The result. -/
def outOf (w : ℕ → F .f32) (Y : ℕ → ℕ → F .f32) : S1000000.Idx → F .f32 := fun y => rowAt w Y (y 0).val

theorem rowF_eq (w : ℕ → F .f32) (Y : ℕ → ℕ → F .f32) (b j : ℕ) : rowF w Y b j = rowAt w Y (b + j) := rfl

end Cert.Proof.Bucket

end
-- ==== Proof.Tile.lean ====
module

public import proofs.«01_k».proof.Proof.Out

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

/-- Sixteen weights loaded. -/
theorem wv_read (f : S64.Idx → F .f32) (w : ℕ → F .f32) (hw : ∀ e, e < 64 → (wb).view.read (Elt F) f (wIx e) = w e)
    (a : ℕ) (ha : a < 4) (o : Fin 1 → ℕ) (inb : ∀ a, o a + S16.size a ≤ S64.size a) (ho : o = ![16 * a]) (l : S16.Idx) :
    ((wb).view.readAt (Elt F) (Rect.unit (s := S64) o S16.size inb).toLoadRect f : S16.Idx → F .f32) l = w (16 * a + (l 0).val) := by
  subst ho
  have h2 : (l 0).val < 16 := (l 0).isLt
  refine Eq.trans (congrArg ((wb).view.read (Elt F) f) (funext fun a => ?_)) (hw (16 * a + (l 0).val) (by omega))
  match a with
  | 0 =>
    refine Fin.ext ?_
    show 16 * _ + 1 * (l 0).val = (16 * _ + (l 0).val) % 64
    rw [Nat.mod_eq_of_lt (by omega)]; omega

theorem lane_ok : ∀ j : Fin 16, S16.Slices ![j.val] S1 := by decide

theorem tab_inb (k : ℕ) : ∀ a : Fin 1, ![16 * (k % 64)] a + S16.size a ≤ S1024.size a :=
  Fin.forall_fin_one.mpr (show 16 * (k % 64) + 16 ≤ 1024 by omega)

/-- The stores that fill the table, the latest first: entry `k` sixteen times over, for each `k` below a bound. -/
def tabList (v : ℕ → S16.Idx → F .f32) : ℕ → List (View.Piece (Elt F) S1024 .f32)
  | 0 => []
  | k + 1 => ⟨Rect.unit (s := S1024) ![16 * (k % 64)] S16.size (tab_inb k),
      broadcast S16 (extractAt ![0] (extractStridedSlice S1 ![k % 16] (v (k / 16)) (lane_ok ⟨k % 16, Nat.mod_lt _ (by decide)⟩)) inpos_S1_p0)⟩ :: tabList v k

theorem tab_upto (w : ℕ → F .f32) (v : ℕ → S16.Idx → F .f32) (hv : ∀ a, a < 4 → ∀ l : S16.Idx, v a l = w (16 * a + (l 0).val)) (f : S1024.Idx → F .f32) :
    ∀ k, k ≤ 64 → Upto (wt).view (fun y => w (y / 16)) (16 * k) ((wt).view.writes (Elt F) f (tabList v k))
  | 0, _ => upto_zero _ _ _
  | k + 1, hk => by
    refine upto_put (wt).view _ _ f (tabList v k) _ (tab_inb k) _ (congrArg (fun n => ![16 * n]) (Nat.mod_eq_of_lt (by omega))) (fun l => ?_) (tab_upto w v hv f k (by omega))
    have h2 : (l 0).val < 16 := (l 0).isLt
    refine (hv (k / 16) (by omega) _).trans ?_
    show w (16 * (k / 16) + (k % 16 + 0)) = w ((16 * k + (l 0).val) / 16)
    congr 1; omega

theorem tab_read (w : ℕ → F .f32) (f : S1024.Idx → F .f32) (h : Upto (wt).view (fun y => w (y / 16)) 1024 f) (k : ℕ) (hk : k < 64) (l : S16.Idx) :
    (wt).view.read (Elt F) f (tIx (16 * k + (l 0).val)) = w k := by
  have h2 : (l 0).val < 16 := (l 0).isLt
  have e : (tIx (16 * k + (l 0).val) 0).val = 16 * k + (l 0).val := Nat.mod_eq_of_lt (by omega)
  refine (h _ (by omega)).trans ?_
  show w ((tIx (16 * k + (l 0).val) 0).val / 16) = w k
  rw [e]; congr 1; omega

/-- The long stretch of the result. -/
abbrev mainOut (i : grid0.Coords) : Memref sig .scVector .hbm S31232 .f32 :=
  (oV).slice (Rect.unit (s := S1000000) (k0_off108 i) S31232.size (k0_off108_inb i)) (fun _ => rfl)

theorem take_main (d : Dev nD) (c : Fin τ.nSC) (j : Fin τ.nSub) (i : grid0.Coords) (f : S1000000.Idx → F .f32) :
    ((oV).view.loc (V d c j) ↦[outSet i]{fullShare} f : sProp 𝕄)
      ⊢ iprop(((mainOut i).view.loc (V d c j) ↦[(mainOut i).view.set]{fullShare} f) ∗ ((oV).view.loc (V d c j) ↦[outSet i \ mainSet i]{fullShare} f)) :=
  (pointsTo_split_subset (main_subset i)).1

/-- The leftover columns of a tile that has a wide leftover, and where their results go. -/
abbrev wideIn (i : grid0.Coords) (h1 : k0_cond1 i = 1#1) : Memref sig .scVector .hbm S64x128 .f32 :=
  (xtV).slice (Rect.unit (s := S64x1000000) (k0_off109 i) S64x128.size (k0_off109_inb i h1)) (fun _ => rfl)
abbrev wideOut (i : grid0.Coords) (h1 : k0_cond1 i = 1#1) : Memref sig .scVector .hbm S128 .f32 :=
  (oV).slice (Rect.unit (s := S1000000) (k0_off119 i) S128.size (k0_off119_inb i h1)) (fun _ => rfl)
abbrev lastOut : Memref sig .scVector .hbm S64 .f32 :=
  (oV).slice (Rect.unit (s := S1000000) ![999936] S64.size inb_S1000000_S64_999936) (fun _ => rfl)
abbrev tobW : Memref sig .scVector .vmem S128 .f32 := (tob).slice (Rect.unit (s := S128) ![0] S128.size inb_S128_S128_0) (fun _ => rfl)
abbrev tobL : Memref sig .scVector .vmem S64 .f32 := (tob).slice (Rect.unit (s := S128) ![0] S64.size inb_S128_S64_0) (fun _ => rfl)

theorem take_wide (d : Dev nD) (c : Fin τ.nSC) (j : Fin τ.nSub) (q : PosShare TreeShare) (X : S64x1000000.Idx → F .f32)
    (i : grid0.Coords) (h1 : k0_cond1 i = 1#1) :
    ((xtV).view.loc (V d c j) ↦[Finset.univ]{q} X : sProp 𝕄)
      ⊢ iprop(((wideIn i h1).view.loc (V d c j) ↦[(wideIn i h1).view.set]{q} X) ∗ ((xtV).view.loc (V d c j) ↦[Finset.univ \ (wideIn i h1).view.set]{q} X)) :=
  (pointsTo_split_subset (Finset.subset_univ _)).1

theorem take_outW (d : Dev nD) (c : Fin τ.nSC) (j : Fin τ.nSub) (i : grid0.Coords) (h1 : k0_cond1 i = 1#1) (f : S1000000.Idx → F .f32) :
    ((oV).view.loc (V d c j) ↦[outSet i \ mainSet i]{fullShare} f : sProp 𝕄)
      ⊢ ((wideOut i h1).view.loc (V d c j) ↦[(wideOut i h1).view.set]{fullShare} f) := by
  rw [rest_wide i h1]

theorem take_outL (d : Dev nD) (c : Fin τ.nSC) (j : Fin τ.nSub) (i : grid0.Coords) (h2 : k0_cond2 i = 1#1) (f : S1000000.Idx → F .f32) :
    ((oV).view.loc (V d c j) ↦[outSet i \ mainSet i]{fullShare} f : sProp 𝕄)
      ⊢ ((lastOut).view.loc (V d c j) ↦[(lastOut).view.set]{fullShare} f) := by
  rw [rest_last i h2]

theorem take_tobW (d : Dev nD) (c : Fin τ.nSC) (j : Fin τ.nSub) (f : S128.Idx → F .f32) :
    ((tob).view.loc (V d c j) ↦{fullShare} f : sProp 𝕄)
      ⊢ iprop(((tobW).view.loc (V d c j) ↦[(tobW).view.set]{fullShare} f) ∗ ((tob).view.loc (V d c j) ↦[Finset.univ \ (tobW).view.set]{fullShare} f)) :=
  (pointsTo_split_subset (Finset.subset_univ _)).1

theorem take_tobL (d : Dev nD) (c : Fin τ.nSC) (j : Fin τ.nSub) (f : S128.Idx → F .f32) :
    ((tob).view.loc (V d c j) ↦{fullShare} f : sProp 𝕄)
      ⊢ iprop(((tobL).view.loc (V d c j) ↦[(tobL).view.set]{fullShare} f) ∗ ((tob).view.loc (V d c j) ↦[Finset.univ \ (tobL).view.set]{fullShare} f)) :=
  (pointsTo_split_subset (Finset.subset_univ _)).1

/-- What the copied leftover columns read. -/
theorem wide_read (X : S64x1000000.Idx → F .f32) (i : grid0.Coords) (h1 : k0_cond1 i = 1#1) (e : ℕ) (he : e < 64) (r : ℕ) (hr : r < 128) :
    (wideIn i h1).view.read (Elt F) X (rIx e r) = colsOf X e (256 * (i 1).val + 128 * (i 0).val + 999424 + r) := by
  have hb : k0_off109 i 1 + 128 ≤ 1000000 := k0_off109_inb i h1 1
  have e0 : k0_off109 i 0 = 0 := congrFun (k0_off109_eq i) 0
  have e1 : k0_off109 i 1 = 256 * (i 1).val + 128 * (i 0).val + 999424 := congrFun (k0_off109_eq i) 1
  refine congrArg X (funext fun a => ?_)
  match a with
  | 0 => refine Fin.ext ?_; show k0_off109 i 0 + 1 * (e % 64) = e % 64; omega
  | 1 => refine Fin.ext ?_; show k0_off109 i 1 + 1 * (r % 128) = (_ + r) % 1000000; omega

/-- The stores of four vectors of leftover results, and of eight. -/
theorem upto4 (w : ℕ → F .f32) (Y : ℕ → ℕ → F .f32) (b : ℕ) (f : S128.Idx → F .f32) :
    Upto (tob).view (rowF w Y b) 64 ((tob).view.writes (Elt F) f
      [⟨Rect.unit (s := S128) ![48] S16.size inb_S128_S16_48, bk w (fun d k => Y d (b + k)) 48⟩,
        ⟨Rect.unit (s := S128) ![32] S16.size inb_S128_S16_32, bk w (fun d k => Y d (b + k)) 32⟩,
        ⟨Rect.unit (s := S128) ![16] S16.size inb_S128_S16_16, bk w (fun d k => Y d (b + k)) 16⟩,
        ⟨Rect.unit (s := S128) ![0] S16.size inb_S128_S16_0, bk w (fun d k => Y d (b + k)) 0⟩]) :=
  (upto_store (tob).view w Y b 48 b 48 f _ ![48] inb_S128_S16_48 rfl (by omega)
      (upto_store (tob).view w Y b 32 b 32 f _ ![32] inb_S128_S16_32 rfl (by omega)
      (upto_store (tob).view w Y b 16 b 16 f _ ![16] inb_S128_S16_16 rfl (by omega)
      (upto_store (tob).view w Y b 0 b 0 f _ ![0] inb_S128_S16_0 rfl (by omega)
      (fun _ h => absurd h (Nat.not_lt_zero _))))))

theorem upto8 (w : ℕ → F .f32) (Y : ℕ → ℕ → F .f32) (b : ℕ) (f : S128.Idx → F .f32) :
    Upto (tob).view (rowF w Y b) 128 ((tob).view.writes (Elt F) f
      [⟨Rect.unit (s := S128) ![112] S16.size inb_S128_S16_112, bk w (fun d k => Y d (b + k)) 112⟩,
        ⟨Rect.unit (s := S128) ![96] S16.size inb_S128_S16_96, bk w (fun d k => Y d (b + k)) 96⟩,
        ⟨Rect.unit (s := S128) ![80] S16.size inb_S128_S16_80, bk w (fun d k => Y d (b + k)) 80⟩,
        ⟨Rect.unit (s := S128) ![64] S16.size inb_S128_S16_64, bk w (fun d k => Y d (b + k)) 64⟩,
        ⟨Rect.unit (s := S128) ![48] S16.size inb_S128_S16_48, bk w (fun d k => Y d (b + k)) 48⟩,
        ⟨Rect.unit (s := S128) ![32] S16.size inb_S128_S16_32, bk w (fun d k => Y d (b + k)) 32⟩,
        ⟨Rect.unit (s := S128) ![16] S16.size inb_S128_S16_16, bk w (fun d k => Y d (b + k)) 16⟩,
        ⟨Rect.unit (s := S128) ![0] S16.size inb_S128_S16_0, bk w (fun d k => Y d (b + k)) 0⟩]) :=
  (upto_store (tob).view w Y b 112 b 112 f _ ![112] inb_S128_S16_112 rfl (by omega)
      (upto_store (tob).view w Y b 96 b 96 f _ ![96] inb_S128_S16_96 rfl (by omega)
      (upto_store (tob).view w Y b 80 b 80 f _ ![80] inb_S128_S16_80 rfl (by omega)
      (upto_store (tob).view w Y b 64 b 64 f _ ![64] inb_S128_S16_64 rfl (by omega)
      (upto_store (tob).view w Y b 48 b 48 f _ ![48] inb_S128_S16_48 rfl (by omega)
      (upto_store (tob).view w Y b 32 b 32 f _ ![32] inb_S128_S16_32 rfl (by omega)
      (upto_store (tob).view w Y b 16 b 16 f _ ![16] inb_S128_S16_16 rfl (by omega)
      (upto_store (tob).view w Y b 0 b 0 f _ ![0] inb_S128_S16_0 rfl (by omega)
      (fun _ h => absurd h (Nat.not_lt_zero _))))))))))

variable (d : Dev nD) (i : grid0.Coords) (X : S64x1000000.Idx → F .f32) (W0 : S64.Idx → F .f32) (TL : S4096.Idx → F .f32)

theorem tobW_read (f : S128.Idx → F .f32) (x : S128.Idx) : (tobW).view.read (Elt F) f x = (tob).view.read (Elt F) f x :=
  congrArg f (funext fun | 0 => Fin.ext (show 0 + 1 * (x 0).val = (x 0).val by omega))

theorem tobL_read (f : S128.Idx → F .f32) (x : S64.Idx) :
    (tobL).view.read (Elt F) f x = (tob).view.read (Elt F) f (fun | 0 => ⟨(x 0).val, Nat.lt_trans (x 0).isLt (by decide : (64 : ℕ) < 128)⟩) :=
  congrArg f (funext fun | 0 => Fin.ext (show 0 + 1 * (x 0).val = (x 0).val by omega))

theorem give_outW (d : Dev nD) (c : Fin τ.nSC) (j : Fin τ.nSub) (i : grid0.Coords) (h1 : k0_cond1 i = 1#1) (f : S1000000.Idx → F .f32) :
    iprop(((mainOut i).view.loc (V d c j) ↦[mainSet i]{fullShare} f) ∗ ((wideOut i h1).view.loc (V d c j) ↦[(wideOut i h1).view.set]{fullShare} f))
      ⊢ ((oV).view.loc (V d c j) ↦[outSet i]{fullShare} f : sProp 𝕄) := by
  rw [show (wideOut i h1).view.set = outSet i \ mainSet i from (rest_wide i h1).symm]
  exact (pointsTo_split_subset (main_subset i)).2

theorem give_outL (d : Dev nD) (c : Fin τ.nSC) (j : Fin τ.nSub) (i : grid0.Coords) (h2 : k0_cond2 i = 1#1) (f : S1000000.Idx → F .f32) :
    iprop(((mainOut i).view.loc (V d c j) ↦[mainSet i]{fullShare} f) ∗ ((lastOut).view.loc (V d c j) ↦[(lastOut).view.set]{fullShare} f))
      ⊢ ((oV).view.loc (V d c j) ↦[outSet i]{fullShare} f : sProp 𝕄) := by
  rw [show (lastOut).view.set = outSet i \ mainSet i from (rest_last i h2).symm]
  exact (pointsTo_split_subset (main_subset i)).2

theorem give_outN (d : Dev nD) (c : Fin τ.nSC) (j : Fin τ.nSub) (i : grid0.Coords) (f : S1000000.Idx → F .f32) :
    iprop(((mainOut i).view.loc (V d c j) ↦[mainSet i]{fullShare} f) ∗ ((oV).view.loc (V d c j) ↦[outSet i \ mainSet i]{fullShare} f))
      ⊢ ((oV).view.loc (V d c j) ↦[outSet i]{fullShare} f : sProp 𝕄) :=
  (pointsTo_split_subset (main_subset i)).2

theorem late_insert {W W' : Waits sig (HIx 1)} (s : SemLoc sig) (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

theorem late_trans {W W₁ W' : Waits sig (HIx 1)} (h₁ : ∀ p ∈ W₁, p ∈ W ∨ p.2 = none) (h : ∀ p ∈ W', p ∈ W₁ ∨ p.2 = none) :
    ∀ p ∈ W', p ∈ W ∨ p.2 = none := fun p hp => (h p hp).elim (h₁ p) .inr

/-- What a tile hands back: what it read as it was, its part of the result at the rows' values, its own buffers at some
    contents and its semaphores at zero. -/
def tilePost (O : CellTallies nD τ sig (HIx 1)) (W : Waits sig (HIx 1)) (qa qb qw ql : PosShare TreeShare) : sProp 𝕄 :=
  iprop(((xtV).view.loc (V d (cV i) (jV i)) ↦[Finset.univ]{qa} X) ∗ ((xtV).view.loc (V d (cV i) (jV i)) ↦[Finset.univ]{qb} X)
      ∗ ((wV).view.loc (V d (cV i) (jV i)) ↦{qw} W0) ∗ ((tlV).view.loc (V d (cV i) (jV i)) ↦{ql} TL)
      ∗ ((oV).view.loc (V d (cV i) (jV i)) ↦[outSet i]{fullShare} outOf (fun e => W0 (wIx e)) (colsOf X))
      ∗ (∃ f, slot0.view.loc (V d (cV i) (jV i)) ↦[slot0.view.set]{fullShare} f) ∗ (∃ f, slot1.view.loc (V d (cV i) (jV i)) ↦[slot1.view.set]{fullShare} f)
      ∗ (∃ f, (ob).view.loc (V d (cV i) (jV i)) ↦{fullShare} f)
      ∗ (∃ f, (tb).view.loc (V d (cV i) (jV i)) ↦[(tb).view.set]{fullShare} f) ∗ (∃ f, (lb).view.loc (V d (cV i) (jV i)) ↦[(lb).view.set]{fullShare} f)
      ∗ (∃ f, (tob).view.loc (V d (cV i) (jV i)) ↦{fullShare} f) ∗ (∃ f, (wb).view.loc (V d (cV i) (jV i)) ↦{fullShare} f)
      ∗ (∃ f, (wt).view.loc (V d (cV i) (jV i)) ↦[(wt).view.set]{fullShare} f)
      ∗ semVal (V d (cV i) (jV i), SemLoc.dma cc0_scratch7.sem) 0 ∗ semVal (V d (cV i) (jV i), SemLoc.dma cc0_scratch8.sem) 0
      ∗ semVal (V d (cV i) (jV i), SemLoc.dma cc0_scoped0.sem) 0 ∗ semVal (V d (cV i) (jV i), SemLoc.dma cc0_scoped1.sem) 0
      ∗ semVal (V d (cV i) (jV i), SemLoc.dma cc0_scoped2.sem) 0 ∗ semVal (V d (cV i) (jV i), SemLoc.dma cc0_scoped3.sem) 0
      ∗ semVal (V d (cV i) (jV i), SemLoc.dma cc0_scoped4.sem) 0 ∗ semVal (V d (cV i) (jV i), SemLoc.dma cc0_scoped5.sem) 0
      ∗ ∃ W', ⌜∀ p ∈ W', p ∈ W ∨ p.2 = none⌝ ∗ owes (V d (cV i) (jV i)) O W')

set_option maxHeartbeats 8000000 in
theorem tile_core (hTL : ∀ e, e < 64 → ∀ r, r < 64 → TL (lIx (64 * e + r)) = X (xIx e (999936 + r)))
    (O : CellTallies nD τ sig (HIx 1)) (W : Waits sig (HIx 1)) (qa qb qw ql : PosShare TreeShare)
    (fo : S1000000.Idx → F .f32) (f0 f1 : S2x64x512.Idx → F .f32) (fb : S31232.Idx → F .f32) (f2 : S64x128.Idx → F .f32) (f3 : S4096.Idx → F .f32)
    (f4 : S128.Idx → F .f32) (f5 : S64.Idx → F .f32) (f6 : S1024.Idx → F .f32) :
    iprop(Transfers.MayWaits (V d (cV i) (jV i)) (default : HIx 1) O
      ∗ ((xtV).view.loc (V d (cV i) (jV i)) ↦[Finset.univ]{qa} X) ∗ ((xtV).view.loc (V d (cV i) (jV i)) ↦[Finset.univ]{qb} X)
      ∗ ((wV).view.loc (V d (cV i) (jV i)) ↦{qw} W0) ∗ ((tlV).view.loc (V d (cV i) (jV i)) ↦{ql} TL)
      ∗ ((oV).view.loc (V d (cV i) (jV i)) ↦[outSet i]{fullShare} fo)
      ∗ (slot0.view.loc (V d (cV i) (jV i)) ↦[slot0.view.set]{fullShare} f0) ∗ (slot1.view.loc (V d (cV i) (jV i)) ↦[slot1.view.set]{fullShare} f1)
      ∗ ((ob).view.loc (V d (cV i) (jV i)) ↦{fullShare} fb)
      ∗ ((tb).view.loc (V d (cV i) (jV i)) ↦[(tb).view.set]{fullShare} f2) ∗ ((lb).view.loc (V d (cV i) (jV i)) ↦[(lb).view.set]{fullShare} f3)
      ∗ ((tob).view.loc (V d (cV i) (jV i)) ↦{fullShare} f4) ∗ ((wb).view.loc (V d (cV i) (jV i)) ↦{fullShare} f5)
      ∗ ((wt).view.loc (V d (cV i) (jV i)) ↦[(wt).view.set]{fullShare} f6)
      ∗ semVal (V d (cV i) (jV i), SemLoc.dma cc0_scratch7.sem) 0 ∗ semVal (V d (cV i) (jV i), SemLoc.dma cc0_scratch8.sem) 0
      ∗ semVal (V d (cV i) (jV i), SemLoc.dma cc0_scoped0.sem) 0 ∗ semVal (V d (cV i) (jV i), SemLoc.dma cc0_scoped1.sem) 0
      ∗ semVal (V d (cV i) (jV i), SemLoc.dma cc0_scoped2.sem) 0 ∗ semVal (V d (cV i) (jV i), SemLoc.dma cc0_scoped3.sem) 0
      ∗ semVal (V d (cV i) (jV i), SemLoc.dma cc0_scoped4.sem) 0 ∗ semVal (V d (cV i) (jV i), SemLoc.dma cc0_scoped5.sem) 0
      ∗ owes (V d (cV i) (jV i)) O W)
    ⊢ (wp frame (wpE (defs₀ (F := F)) 𝒱₀ (V d (cV i) (jV i)) none) Set.univ
      (cc0__body (F := F) i xtV (Memref.isWhole_whole _) wV (Memref.isWhole_whole _) tlV (Memref.isWhole_whole _) oV (Memref.isWhole_whole _)
        xb (Memref.isWhole_whole _) ob (Memref.isWhole_whole _) tb (Memref.isWhole_whole _) lb (Memref.isWhole_whole _) tob (Memref.isWhole_whole _)
        wb (Memref.isWhole_whole _) wt (Memref.isWhole_whole _) cc0_scratch7 cc0_scratch8 cc0_scoped0 cc0_scoped1 cc0_scoped2 cc0_scoped3 cc0_scoped4 cc0_scoped5)
      fun _ => tilePost d i X W0 TL O W qa qb qw ql : sProp 𝕄) := by
  rw [cc0__body_eq_skeleton]; unfold cc0__body_skel
  iintro ⟨Hmw, Hxa, Hxb, Hw, Hl, Hout, H0, H1, Hob, Htb, Hlb, Htob, Hwb, Ht, HsA, HsB, Hs0, Hs1, Hs2, Hs3, Hs4, Hs5, HO⟩
  ihave Hxa := (take_blk _ _ _ _ _ (k0_off1 i 0#32) (k0_off1_inb i 0)) $$ Hxa
  icases Hxa with ⟨Hxc, Hxa⟩
  rw [k0_part52_eq_skeleton, k0_part53_eq_skeleton, k0_part54_eq_skeleton, k0_part55_eq_skeleton, k0_part56_eq_skeleton, k0_part57_eq_skeleton, k0_part58_eq_skeleton]
  unfold k0_part52_skel k0_part53_skel k0_part54_skel k0_part55_skel k0_part56_skel k0_part57_skel k0_part58_skel
  sl_exec
  have hfw : ∀ e, e < 64 → (wb).view.read (Elt F) (View.write (Elt F) (wb).view f5 ((wV).view.read (Elt F) W0) Finset.univ) (wIx e) = W0 (wIx e) :=
    fun e _ => congrFun (View.read_write_univ (v := (wb).view) (Val := Elt F) f5 ((wV).view.read (Elt F) W0)) (wIx e)
  ihave Ht := pts_name $$ Ht
  icases Ht with ⟨%ft, %hft, Ht⟩
  generalize hwd : (fun e => W0 (wIx e)) = w at *
  have hU : Upto (wt).view (fun y => w (y / 16)) 1024 ft := by
    rw [hft]
    exact tab_upto w (fun a => (wb).view.readAt (Elt F) (Rect.unit (s := S64) ![16 * (a % 4)] S16.size
        (Fin.forall_fin_one.mpr (show 16 * (a % 4) + 16 ≤ 64 by omega))).toLoadRect (View.write (Elt F) (wb).view f5 ((wV).view.read (Elt F) W0) Finset.univ))
      (fun a ha l => wv_read _ w (fun e he => (hfw e he).trans (congrFun hwd e)) a ha _ _ (by rw [Nat.mod_eq_of_lt ha]) l) _ 64 (Nat.le_refl _)
  have hw := tab_read w ft hU
  clear hft hU hfw
  sl_for (fun k (_ : PUnit) => pairInv d i O (insert (SemLoc.dma cc0_scoped0.sem, default) W) qa qb X ft w k) $$ [Hmw Hxa Hxb H1 Hob Ht HsB HO HsA]
  case region => exact fun k a => pair_region d i k _ _ _ O _ qa qb X ft w hw a
  · unfold pairInv
    isplitl [Hmw]
    · iexact Hmw
    isplitl [Ht]
    · iexact Ht
    isplitl [HsA Hxa]
    · iexists (k0_off1 i 0#32), (k0_off1_inb i 0),
        (slot0.view.writes (Elt F) f0 [⟨Rect.whole S64x512, (blk (k0_off1 i 0#32) (k0_off1_inb i 0)).view.read (Elt F) X⟩])
      isplitr
      · ipureintro
        exact holds_copy slot0 f0 X (k0_off1 i 0#32) (k0_off1_inb i 0) _ ((k0_off1_eq i 0).trans (by unfold base; rfl))
      isplitl [HsA]
      · iexact HsA
      · iexact Hxa
    isplitl [HsB]
    · iexact HsB
    isplitl [H1]
    · iexists f1
      iexact H1
    isplitl [Hxb]
    · iexact Hxb
    isplitl [Hob]
    · iexists fb
      isplitr
      · ipureintro; exact upto_zero _ _ _
      · iexact Hob
    iexists _
    isplitr
    on_goal 2 => iexact HO
    ipureintro
    exact fun p hp => .inl hp
  iintro %u HI
  unfold pairInv
  icases HI with ⟨Hmw, Ht, ⟨%o, %h, %f0', %hf0, Hfa, Hxr⟩, HsB, ⟨%f1', H1⟩, Hxb, ⟨%fb0, %hU0, Ho⟩, %W', %hW', HO⟩
  ihave Hout := (take_main _ _ _ _ _) $$ Hout
  icases Hout with ⟨Hom, Hor⟩
  have ht : Scf.trips k0_t1_loop.lb k0_t1_loop.ub k0_t1_loop.st = 30 := by decide
  rw [ht] at hf0 hU0
  sl_exec
  sl_for (tripInv d (cV i) (jV i) w (fun e r => colsOf X e (base i + 1024 * 30 + r)) wt ft slot0 f0' 0) $$ [Ht Hfa_dst]
  case region => exact fun k a => trip_region d w _ wt ft slot0 f0' k.val 0 (hw k.val k.isLt) (hf0 k.val k.isLt) _ (t6_trip i _ _ _ k) a
  · unfold tripInv
    isplitr
    · ipureintro; rfl
    isplitl [Ht]
    · iexact Ht
    · iexact Hfa_dst
  iintro %a HI
  unfold tripInv
  icases HI with ⟨%ha, Ht, Hfa_dst⟩
  subst ha
  unfold sums16
  rw [k0_part60_eq_skeleton, k0_part61_eq_skeleton, k0_part62_eq_skeleton, k0_part63_eq_skeleton, k0_part64_eq_skeleton, k0_part65_eq_skeleton, k0_part66_eq_skeleton]
  unfold k0_part60_skel k0_part61_skel k0_part62_skel k0_part63_skel k0_part64_skel k0_part65_skel k0_part66_skel
  sl_exec
  ihave Ho := pts_name $$ Ho
  icases Ho with ⟨%fb1, %hfb1, Ho⟩
  have hU1 : Upto (ob).view (rowF w (colsOf X) (base i)) (30720 + 256) fb1 := by
    rw [hfb1]
    exact upto16 (ob).view w (colsOf X) (base i) 30720 (base i + 1024 * 30) 0 _ (fun g => ![30720 + 16 * g.val])
      (fun g => Fin.forall_fin_one.mpr (show 30720 + 16 * g.val + 16 ≤ 31232 by omega)) (fun _ => rfl) (by omega) hU0
  clear hfb1
  rw [wp_bind]
  sl_for (tripInv d (cV i) (jV i) w (fun e r => colsOf X e (base i + 1024 * 30 + r)) wt ft slot0 f0' 256) $$ [Ht Hfa_dst]
  case region => exact fun k a => trip_region d w _ wt ft slot0 f0' k.val 256 (hw k.val k.isLt) (hf0 k.val k.isLt) _ (t7_trip i _ _ _ _ _ _ _ _ _ _ _ _ _ _ k) a
  · unfold tripInv
    isplitr
    · ipureintro; rfl
    isplitl [Ht]
    · iexact Ht
    · iexact Hfa_dst
  iintro %a HI
  unfold tripInv
  icases HI with ⟨%ha, Ht, Hfa_dst⟩
  subst ha
  unfold sums16
  rw [k0_part67_eq_skeleton, k0_part68_eq_skeleton, k0_part69_eq_skeleton, k0_part70_eq_skeleton, k0_part71_eq_skeleton, k0_part72_eq_skeleton, k0_part73_eq_skeleton]
  unfold k0_part67_skel k0_part68_skel k0_part69_skel k0_part70_skel k0_part71_skel k0_part72_skel k0_part73_skel
  sl_exec
  ihave Ho := pts_name $$ Ho
  icases Ho with ⟨%fb2, %hfb2, Ho⟩
  have hU2 : Upto (ob).view (rowF w (colsOf X) (base i)) (30976 + 256) fb2 := by
    rw [hfb2]
    exact upto16 (ob).view w (colsOf X) (base i) 30976 (base i + 1024 * 30) 256 _ (fun g => ![30976 + 16 * g.val])
      (fun g => Fin.forall_fin_one.mpr (show 30976 + 16 * g.val + 16 ≤ 31232 by omega)) (fun _ => rfl) (by omega) hU1
  rw [hfb2] at hU2
  ihave Hom := pts_name $$ Hom
  icases Hom with ⟨%go, %hgo, Hom⟩
  have hgo' : ∀ y ∈ mainSet i, go y = outOf w (colsOf X) y := by
    rw [hgo]
    refine osl_copied (k0_off108 i) S31232.size (k0_off108_inb i) fo _ (rowAt w (colsOf X)) (fun x => ?_)
    refine (hU2 x (x 0).isLt).trans ?_
    rw [rowF_eq, k0_off108_eq]; rfl
  clear hU2 hU1 hfb2 hgo hU0
  ihave Hom := (Entails.of_eq (pointsTo_congr hgo')) $$ Hom
  by_cases h1 : k0_cond1 i = 1#1
  · rw [dif_pos h1]
    have hc2 : ¬ k0_cond2 i = 1#1 := fun h2 => by
      have e1 := (cond1_iff i).mp h1
      have e2 := (cond2_iff i).mp h2
      omega
    ihave Hxb := (take_wide _ _ _ _ _ i h1) $$ Hxb
    icases Hxb with ⟨Hxc, Hxb⟩
    ihave Hor := (take_outW _ _ _ i h1 _) $$ Hor
    rw [k0_part46_eq_skeleton]
    unfold k0_part46_skel
    sl_exec
    ihave Htb := pts_name $$ Htb
    icases Htb with ⟨%f2', %hf2, Htb⟩
    have hx : ∀ k, k < 64 → ∀ r, r < 128 → (tb).view.read (Elt F) f2' (rIx k r) = colsOf X k (256 * (i 1).val + 128 * (i 0).val + 999424 + r) := by
      intro k hk r hr
      rw [hf2]
      refine (congrFun (View.read_writes_whole (tb).view (Val := Elt F) f2 _) (rIx k r)).trans ?_
      exact wide_read X i h1 k hk r hr
    rw [wp_bind]
    sl_for (restInv d (cV i) (jV i) w (fun e r => colsOf X e (256 * (i 1).val + 128 * (i 0).val + 999424 + r)) ft f2') $$ [Ht Htb]
    case region => exact fun k a => rest_region d i _ h1 w _ ft f2' k (hw k.val k.isLt) (hx k.val k.isLt) a
    · unfold restInv
      isplitr
      · ipureintro; rfl
      isplitl [Ht]
      · iexact Ht
      · iexact Htb
    iintro %a HI
    unfold restInv
    icases HI with ⟨%ha, Ht, Htb⟩
    subst ha
    unfold sums8
    rw [k0_part47_eq_skeleton, k0_part48_eq_skeleton, k0_part49_eq_skeleton]
    unfold k0_part47_skel k0_part48_skel k0_part49_skel
    sl_exec
    ihave Htob := pts_name $$ Htob
    icases Htob with ⟨%f4', %hf4, Htob⟩
    have hUt : Upto (tob).view (rowF w (colsOf X) (256 * (i 1).val + 128 * (i 0).val + 999424)) 128 f4' := by
      rw [hf4]
      exact upto8 w (colsOf X) (256 * (i 1).val + 128 * (i 0).val + 999424) f4
    rw [hf4] at hUt
    ihave Hor := pts_name $$ Hor
    icases Hor with ⟨%gr, %hgr, Hor⟩
    have hgr' : ∀ y ∈ (wideOut i h1).view.set, gr y = outOf w (colsOf X) y := by
      rw [hgr]
      refine osl_copied (k0_off119 i) S128.size (k0_off119_inb i h1) fo _ (rowAt w (colsOf X)) (fun x => ?_)
      refine (tobW_read _ x).trans ((hUt x (x 0).isLt).trans ?_)
      rw [rowF_eq, k0_off119_eq]; rfl
    ihave Hor := (Entails.of_eq (pointsTo_congr hgr')) $$ Hor
    ihave Hout := (give_outW _ _ _ _ h1 _) $$ [Hom Hor]
    · isplitl [Hom]
      · iexact Hom
      · iexact Hor
    sl_step
    unfold tilePost
    rw [hwd]
    isplitl [Hxr]
    · iexact Hxr
    isplitl [Hxb]
    · iexact Hxb
    isplitl [Hw]
    · iexact Hw
    isplitl [Hl]
    · iexact Hl
    isplitl [Hout]
    · iexact Hout
    isplitl [Hfa_dst]
    · iexists _; iexact Hfa_dst
    isplitl [H1]
    · iexists _; iexact H1
    isplitl [Ho]
    · iexists _; iexact Ho
    isplitl [Htb]
    · iexists _; iexact Htb
    isplitl [Hlb]
    · iexists _; iexact Hlb
    isplitl [Htob]
    · iexists _; iexact Htob
    isplitl [Hwb]
    · iexists _; iexact Hwb
    isplitl [Ht]
    · iexists _; iexact Ht
    isplitl [Hfa]
    · iexact Hfa
    isplitl [HsB]
    · iexact HsB
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    iexists _
    isplitr
    on_goal 2 => iexact HO
    ipureintro
    repeat refine late_insert _ ?_
    exact late_trans (late_insert _ fun p hp => .inl hp) hW'
  · rw [dif_neg h1]
    by_cases h2 : k0_cond2 i = 1#1
    · rw [dif_pos h2]
      ihave Hor := (take_outL _ _ _ i h2 _) $$ Hor
      rw [k0_part50_eq_skeleton]
      unfold k0_part50_skel
      sl_exec
      ihave Hlb := pts_name $$ Hlb
      icases Hlb with ⟨%f3', %hf3, Hlb⟩
      have hx : ∀ k, k < 64 → ∀ r, r < 64 → (lb).view.read (Elt F) f3' (lIx (64 * k + r)) = colsOf X k (999936 + r) := by
        intro k hk r hr
        rw [hf3]
        refine (congrFun (View.read_writes_whole (lb).view (Val := Elt F) f3 _) (lIx (64 * k + r))).trans ?_
        exact hTL k hk r hr
      rw [wp_bind]
      sl_for (lastInv d (cV i) (jV i) w (fun e r => colsOf X e (999936 + r)) ft f3') $$ [Ht Hlb]
      case region => exact fun k a => last_region d i h2 w _ ft f3' k (hw k.val k.isLt) (hx k.val k.isLt) a
      · unfold lastInv
        isplitr
        · ipureintro; rfl
        isplitl [Ht]
        · iexact Ht
        · iexact Hlb
      iintro %a HI
      unfold lastInv
      icases HI with ⟨%ha, Ht, Hlb⟩
      subst ha
      unfold sums4
      rw [k0_part51_eq_skeleton]
      unfold k0_part51_skel
      sl_exec
      have hUt : Upto (tob).view (rowF w (colsOf X) 999936) 64 ((tob).view.writes (Elt F) f4 (tile_core.sl.Htob_4 X w)) :=
        upto4 w (colsOf X) 999936 f4
      ihave Hor := pts_name $$ Hor
      icases Hor with ⟨%gr, %hgr, Hor⟩
      have hgr' : ∀ y ∈ (lastOut).view.set, gr y = outOf w (colsOf X) y := by
        rw [hgr]
        refine osl_copied ![999936] S64.size inb_S1000000_S64_999936 fo _ (rowAt w (colsOf X)) (fun x => ?_)
        exact (tobL_read _ x).trans (hUt _ (x 0).isLt)
      ihave Hor := (Entails.of_eq (pointsTo_congr hgr')) $$ Hor
      ihave Hout := (give_outL _ _ _ _ h2 _) $$ [Hom Hor]
      · isplitl [Hom]
        · iexact Hom
        · iexact Hor
      sl_step
      unfold tilePost
      rw [hwd]
      isplitl [Hxr]
      · iexact Hxr
      isplitl [Hxb]
      · iexact Hxb
      isplitl [Hw]
      · iexact Hw
      isplitl [Hl]
      · iexact Hl
      isplitl [Hout]
      · iexact Hout
      isplitl [Hfa_dst]
      · iexists _; iexact Hfa_dst
      isplitl [H1]
      · iexists _; iexact H1
      isplitl [Ho]
      · iexists _; iexact Ho
      isplitl [Htb]
      · iexists _; iexact Htb
      isplitl [Hlb]
      · iexists _; iexact Hlb
      isplitl [Htob]
      · iexists _; iexact Htob
      isplitl [Hwb]
      · iexists _; iexact Hwb
      isplitl [Ht]
      · iexists _; iexact Ht
      isplitl [Hfa]
      · iexact Hfa
      isplitl [HsB]
      · iexact HsB
      isplitl [Hs0]
      · iexact Hs0
      isplitl [Hs1]
      · iexact Hs1
      isplitl [Hs2]
      · iexact Hs2
      isplitl [Hs3]
      · iexact Hs3
      isplitl [Hs4]
      · iexact Hs4
      isplitl [Hs5]
      · iexact Hs5
      iexists _
      isplitr
      on_goal 2 => iexact HO
      ipureintro
      repeat refine late_insert _ ?_
      exact late_trans (late_insert _ fun p hp => .inl hp) hW'
    · rw [dif_neg h2]
      ihave Hor := (Entails.of_eq (pointsTo_congr (g := outOf w (colsOf X)) fun y hy => absurd hy (rest_none i h1 h2 y))) $$ Hor
      ihave Hout := (give_outN _ _ _ i _) $$ [Hom Hor]
      · isplitl [Hom]
        · iexact Hom
        · iexact Hor
      sl_exec
      sl_step
      unfold tilePost
      rw [hwd]
      isplitl [Hxr]
      · iexact Hxr
      isplitl [Hxb]
      · iexact Hxb
      isplitl [Hw]
      · iexact Hw
      isplitl [Hl]
      · iexact Hl
      isplitl [Hout]
      · iexact Hout
      isplitl [Hfa_dst]
      · iexists _; iexact Hfa_dst
      isplitl [H1]
      · iexists _; iexact H1
      isplitl [Ho]
      · iexists _; iexact Ho
      isplitl [Htb]
      · iexists _; iexact Htb
      isplitl [Hlb]
      · iexists _; iexact Hlb
      isplitl [Htob]
      · iexists _; iexact Htob
      isplitl [Hwb]
      · iexists _; iexact Hwb
      isplitl [Ht]
      · iexists _; iexact Ht
      isplitl [Hfa]
      · iexact Hfa
      isplitl [HsB]
      · iexact HsB
      isplitl [Hs0]
      · iexact Hs0
      isplitl [Hs1]
      · iexact Hs1
      isplitl [Hs2]
      · iexact Hs2
      isplitl [Hs3]
      · iexact Hs3
      isplitl [Hs4]
      · iexact Hs4
      isplitl [Hs5]
      · iexact Hs5
      iexists _
      isplitr
      on_goal 2 => iexact HO
      ipureintro
      repeat refine late_insert _ ?_
      exact late_trans (late_insert _ fun p hp => .inl hp) hW'

end Cert.Proof.Bucket

end
-- ==== Proof.Task.lean ====
module

public import proofs.«01_k».proof.Proof.Tile

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

/-! ## A tile's own semaphores and buffers -/

/-- What is held of a set is what is held of the members a one-to-one function names, and of the others. -/
theorem bigSep_named {M : Type} [URA M] {I J : Type} [DecidableEq I] [DecidableEq J] {s : Finset I} {t : Finset J} {f : J → I}
    (inj : ∀ a b, f a = f b → a = b) (sub : ∀ j ∈ t, f j ∈ s) (Φ : I → sProp M) :
    bigSep s Φ = iprop(bigSep t (fun j => Φ (f j)) ∗ bigSep (s \ t.image f) Φ) := by
  rw [SparseCore.bigSep_sdiff_split' (t := t.image f) (Finset.image_subset_iff.mpr sub),
    SparseCore.bigSep_image_of_injOn (fun a _ b _ h => inj a b h) Φ]

/-- The eight semaphores a tile's transfers signal. -/
abbrev tileSems : Finset (SemLoc sig) :=
  {.dma cc0_scratch7.sem, .dma cc0_scratch8.sem, .dma cc0_scoped0.sem, .dma cc0_scoped1.sem, .dma cc0_scoped2.sem, .dma cc0_scoped3.sem,
    .dma cc0_scoped4.sem, .dma cc0_scoped5.sem}

theorem tileSems_scoped : ∀ s ∈ tileSems, s.isScoped .scVector = true := by decide

/-- The seven buffers a tile works in. -/
abbrev tileRefs : Finset (Ref sig .scVector) :=
  {cc0_scratch0, cc0_scratch1, cc0_scratch2, cc0_scratch3, cc0_scratch4, cc0_scratch5, cc0_scratch6}

section Own

variable (d : Dev nD) (i : grid0.Coords)

theorem ownSems_tile :
    (SparseCore.Cfg.ownSems0 (V d (cV i) (jV i)) : sProp 𝕄)
      = iprop((bigSep tileSems fun s => semVal (V d (cV i) (jV i), s) 0)
          ∗ bigSep (SparseCore.Cfg.ownCells (V d (cV i) (jV i)) \ tileSems.image fun s => (V d (cV i) (jV i), s)) fun g => semVal g 0) := by
  unfold SparseCore.Cfg.ownSems0
  exact bigSep_named (fun _ _ e => (Prod.mk.inj e).2)
    (fun s hs => (SparseCore.Cfg.mem_ownCells (g := (V d (cV i) (jV i), s))).mpr ⟨rfl, show s.isScoped .scVector = true from tileSems_scoped s hs⟩) _

theorem tileRefs_own : ∀ b ∈ tileRefs, ((Proc.scVector (cV i) (jV i)).devRef b).owner = .proc (.scVector (cV i) (jV i)) := by
  intro b hb
  simp only [tileRefs, Finset.mem_insert, Finset.mem_singleton] at hb
  rcases hb with rfl | rfl | rfl | rfl | rfl | rfl | rfl <;> rfl

theorem ownBufs_tile :
    (SparseCore.Cfg.ownBufs (V d (cV i) (jV i)) : sProp 𝕄)
      = iprop((bigSep tileRefs fun b => iprop(∃ f, (V d (cV i) (jV i)).loc b ↦{fullShare} f))
          ∗ bigSep (SparseCore.Cfg.ownRefs (τ := τ) (sig := sig) (.scVector (cV i) (jV i)) \ tileRefs.image (Proc.scVector (cV i) (jV i)).devRef)
              fun b => iprop(∃ f, ((d, b) : Loc nD τ sig) ↦{fullShare} f)) := by
  unfold SparseCore.Cfg.ownBufs
  exact bigSep_named (fun _ _ e => Proc.devRef_injective _ e)
    (fun b hb => SparseCore.Cfg.mem_ownRefs_of_owner (p := Proc.scVector (cV i) (jV i)) (b := (Proc.scVector (cV i) (jV i)).devRef b) (tileRefs_own i b hb)) _

theorem tileSems_split :
    (bigSep tileSems fun s => (semVal (V d (cV i) (jV i), s) 0 : sProp 𝕄))
      = iprop(semVal (V d (cV i) (jV i), SemLoc.dma cc0_scratch7.sem) 0 ∗ semVal (V d (cV i) (jV i), SemLoc.dma cc0_scratch8.sem) 0
        ∗ semVal (V d (cV i) (jV i), SemLoc.dma cc0_scoped0.sem) 0 ∗ semVal (V d (cV i) (jV i), SemLoc.dma cc0_scoped1.sem) 0
        ∗ semVal (V d (cV i) (jV i), SemLoc.dma cc0_scoped2.sem) 0 ∗ semVal (V d (cV i) (jV i), SemLoc.dma cc0_scoped3.sem) 0
        ∗ semVal (V d (cV i) (jV i), SemLoc.dma cc0_scoped4.sem) 0 ∗ semVal (V d (cV i) (jV i), SemLoc.dma cc0_scoped5.sem) 0) := by
  unfold tileSems
  repeat rw [SparseCore.bigSep_insert' (by decide)]
  rw [bigSep_singleton]

theorem tileRefs_split (Φ : Ref sig .scVector → sProp 𝕄) :
    bigSep tileRefs Φ = iprop(Φ cc0_scratch0 ∗ Φ cc0_scratch1 ∗ Φ cc0_scratch2 ∗ Φ cc0_scratch3 ∗ Φ cc0_scratch4 ∗ Φ cc0_scratch5 ∗ Φ cc0_scratch6) := by
  unfold tileRefs
  repeat rw [SparseCore.bigSep_insert' (by decide)]
  rw [bigSep_singleton]

/-! ## The block buffer is its two halves -/

theorem slot_first {o : Fin 3 → ℕ} (h : ∀ a, o a + S1x64x512.size a ≤ S2x64x512.size a) (y : S2x64x512.Idx)
    (hy : y ∈ ((xb).view.slice (Rect.unit (s := S2x64x512) o S1x64x512.size h)).set) : (y 0).val = o 0 := by
  obtain ⟨x, rfl⟩ := View.exists_of_mem_set_slice hy
  have hx : (x 0).val < 1 := (x 0).isLt
  show o 0 + 1 * (x 0).val = o 0
  omega

theorem slot0_set : (slot0.view.set : Finset S2x64x512.Idx)
    = ((xb).view.slice (Rect.unit (s := S2x64x512) ![0, 0, 0] S1x64x512.size inb_S2x64x512_S1x64x512_0_0_0)).set :=
  View.set_reshape _ squeezes_S1x64x512_S64x512.numel_eq
theorem slot1_set : (slot1.view.set : Finset S2x64x512.Idx)
    = ((xb).view.slice (Rect.unit (s := S2x64x512) ![1, 0, 0] S1x64x512.size inb_S2x64x512_S1x64x512_1_0_0)).set :=
  View.set_reshape _ squeezes_S1x64x512_S64x512.numel_eq

theorem slots_disjoint : Disjoint (slot0.view.set : Finset S2x64x512.Idx) slot1.view.set := by
  refine Finset.disjoint_left.mpr fun y h0 h1 => ?_
  have e0 := slot_first inb_S2x64x512_S1x64x512_0_0_0 y (slot0_set ▸ h0)
  have e1 := slot_first inb_S2x64x512_S1x64x512_1_0_0 y (slot1_set ▸ h1)
  rw [e0] at e1
  exact absurd e1 (by decide)

/-- What of the block buffer is in neither half. -/
abbrev slotRest : Finset S2x64x512.Idx := (Finset.univ \ slot0.view.set) \ slot1.view.set

theorem slots_take (f : S2x64x512.Idx → F .f32) :
    ((V d (cV i) (jV i)).loc cc0_scratch0 ↦{fullShare} f : sProp 𝕄)
      ⊢ iprop((slot0.view.loc (V d (cV i) (jV i)) ↦[slot0.view.set]{fullShare} f) ∗ (slot1.view.loc (V d (cV i) (jV i)) ↦[slot1.view.set]{fullShare} f)
        ∗ ((V d (cV i) (jV i)).loc cc0_scratch0 ↦[slotRest]{fullShare} f)) := by
  refine (pointsTo_split_subset (ℓ := (V d (cV i) (jV i)).loc cc0_scratch0) (I := slot0.view.set) (Finset.subset_univ _)).1.trans (sep_mono_right ?_)
  exact (pointsTo_split_subset (ℓ := (V d (cV i) (jV i)).loc cc0_scratch0) (I := slot1.view.set) (Finset.subset_sdiff.mpr ⟨Finset.subset_univ _, slots_disjoint.symm⟩)).1

theorem slots_give (f0 f1 f2 : S2x64x512.Idx → F .f32) :
    iprop((slot0.view.loc (V d (cV i) (jV i)) ↦[slot0.view.set]{fullShare} f0) ∗ (slot1.view.loc (V d (cV i) (jV i)) ↦[slot1.view.set]{fullShare} f1)
        ∗ ((V d (cV i) (jV i)).loc cc0_scratch0 ↦[slotRest]{fullShare} f2))
      ⊢ (iprop(∃ f, (V d (cV i) (jV i)).loc cc0_scratch0 ↦{fullShare} f) : sProp 𝕄) := by
  iintro ⟨H0, H1, H2⟩
  ihave H := (pointsTo_join (ℓ := (V d (cV i) (jV i)).loc cc0_scratch0) (Val := Elt F) (I := slot1.view.set) (J := slotRest) (f := f1) (g := f2) Finset.disjoint_sdiff) $$ [H1 H2]
  · isplitl [H1]
    · iexact H1
    · iexact H2
  ihave H := (pointsTo_join (ℓ := (V d (cV i) (jV i)).loc cc0_scratch0) (Val := Elt F) (I := slot0.view.set) (f := f0)
    (Finset.disjoint_union_right.mpr ⟨slots_disjoint, Finset.disjoint_left.mpr fun y h0 h2 =>
      (Finset.mem_sdiff.mp (Finset.mem_sdiff.mp h2).1).2 h0⟩)) $$ [H0 H]
  · isplitl [H0]
    · iexact H0
    · iexact H
  rw [show (slot0.view.set ∪ (slot1.view.set ∪ slotRest) : Finset S2x64x512.Idx) = Finset.univ by
    ext y
    simp only [Finset.mem_union, Finset.mem_sdiff, Finset.mem_univ, true_and, iff_true]
    by_cases h0 : y ∈ (slot0.view.set : Finset S2x64x512.Idx)
    · exact .inl h0
    · by_cases h1 : y ∈ (slot1.view.set : Finset S2x64x512.Idx)
      · exact .inr (.inl h1)
      · exact .inr (.inr ⟨h0, h1⟩)]
  iexists _
  iexact H

end Own

/-! ## The task -/

abbrev xLoc (d : Dev nD) : Loc nD τ sig := (SparseCore.T d).loc main_v0
abbrev wLoc (d : Dev nD) : Loc nD τ sig := (SparseCore.T d).loc main_arg1
abbrev lLoc (d : Dev nD) : Loc nD τ sig := (SparseCore.T d).loc main_v2
abbrev oLoc (d : Dev nD) : Loc nD τ sig := (SparseCore.T d).loc main_v3

/-- What a tile is handed: a share of the transposed `x`, of the weights and of the last rows, and its part of the result. -/
def piece (d : Dev nD) (i : grid0.Coords) (q : PosShare TreeShare) (X : S64x1000000.Idx → F .f32) (W0 : S64.Idx → F .f32) (TL : S4096.Idx → F .f32)
    (f : S1000000.Idx → F .f32) : sProp 𝕄 :=
  iprop((xLoc d ↦{q} X) ∗ (wLoc d ↦{q} W0) ∗ (lLoc d ↦{q} TL) ∗ oLoc d ↦[outSet i]{fullShare} f)

instance piece_storable (d : Dev nD) (i : grid0.Coords) (q : PosShare TreeShare) (X : S64x1000000.Idx → F .f32) (W0 : S64.Idx → F .f32)
    (TL : S4096.Idx → F .f32) (f : S1000000.Idx → F .f32) : BI.Storable (upEmb : UEmb _ 𝕄) (piece d i q X W0 TL f) := by
  unfold piece; infer_instance

/-- The result from the transposed `x` and the weights. -/
abbrev result (X : S64x1000000.Idx → F .f32) (W0 : S64.Idx → F .f32) : S1000000.Idx → F .f32 := outOf (fun e => W0 (wIx e)) (colsOf X)

/-- The last rows laid out flat are the last columns of the transposed `x`. -/
def LastOf (X : S64x1000000.Idx → F .f32) (TL : S4096.Idx → F .f32) : Prop :=
  ∀ e, e < 64 → ∀ r, r < 64 → TL (lIx (64 * e + r)) = X (xIx e (999936 + r))

theorem tile_body (d : Dev nD) (i : grid0.Coords) (q : PosShare TreeShare) (X : S64x1000000.Idx → F .f32) (W0 : S64.Idx → F .f32) (TL : S4096.Idx → F .f32)
    (hTL : LastOf X TL) (f : S1000000.Idx → F .f32) (O : CellTallies nD τ sig (HIx 1)) (W : Waits sig (HIx 1)) (hO : ∀ g, O g none = 0) :
    iprop(levAts (K (F := F)).L (K (F := F)).lev ∗ emp ∗ piece d i q X W0 TL f
        ∗ scopedBufs (V d (cV i) (jV i)) ∗ scopedSems0 (V d (cV i) (jV i)) ∗ owes (V d (cV i) (jV i)) O W)
      ⊢ (wp frame (wpE (defs₀ (F := F)) 𝒱₀ (V d (cV i) (jV i)) none) Set.univ
          (cc0__body (F := F) i xtV (Memref.isWhole_whole _) wV (Memref.isWhole_whole _) tlV (Memref.isWhole_whole _) oV (Memref.isWhole_whole _)
            xb (Memref.isWhole_whole _) ob (Memref.isWhole_whole _) tb (Memref.isWhole_whole _) lb (Memref.isWhole_whole _) tob (Memref.isWhole_whole _)
            wb (Memref.isWhole_whole _) wt (Memref.isWhole_whole _) cc0_scratch7 cc0_scratch8 cc0_scoped0 cc0_scoped1 cc0_scoped2 cc0_scoped3 cc0_scoped4 cc0_scoped5)
          fun _ => iprop(piece d i q X W0 TL (result X W0)
            ∗ scopedBufs (V d (cV i) (jV i)) ∗ scopedSems0 (V d (cV i) (jV i))
            ∗ ∃ W', ⌜∀ p ∈ W', p ∈ W ∨ p.2 = none⌝ ∗ owes (V d (cV i) (jV i)) O W') : sProp 𝕄) := by
  rw [(K (F := F)).scopedBufs_V facts d (cV i) (jV i), SparseCore.Cfg.scopedSems0_V (Val := Elt F) d (cV i) (jV i), ownSems_tile, ownBufs_tile,
    tileSems_split, tileRefs_split]
  unfold piece
  have etb : (tb).view.set = Finset.univ := View.set_whole _
  have elb : (lb).view.set = Finset.univ := View.set_whole _
  have ewt : (wt).view.set = Finset.univ := View.set_whole _
  iintro ⟨#Hlv, -, ⟨Hx, Hw, Hl, Ho⟩, ⟨⟨⟨%f0, H0⟩, ⟨%f1, H1⟩, ⟨%f2, H2⟩, ⟨%f3, H3⟩, ⟨%f4, H4⟩, ⟨%f5, H5⟩, ⟨%f6, H6⟩⟩, Hbufs⟩, ⟨Hs, Hsems⟩, HO⟩
  icases Hs with ⟨S1, S2, S3, S4, S5, S6, S7, S8⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Hxs := (pointsTo_share (PosShare.mem_left_op_right q)).1 $$ Hx
  icases Hxs with ⟨Hxa, Hxb⟩
  ihave Hsl := (slots_take d i f0) $$ H0
  icases Hsl with ⟨Ha, Hb, Hr⟩
  iapply (wp_wand_r frame (wpE (defs₀ (F := F)) 𝒱₀ (V d (cV i) (jV i)) none) Set.univ)
  isplitr [Hr Hbufs Hsems]
  · iapply (tile_core d i X W0 TL hTL O W q.left q.right q q f f0 f0 f1 f2 f3 f4 f5 f6)
    rw [etb, elb, ewt]
    iframe
    iexact Hmw
  iintro %_ HP
  unfold tilePost
  rw [etb, elb, ewt]
  icases HP with ⟨Hxa, Hxb, Hw, Hl, Ho, ⟨%g0, Ha⟩, ⟨%g1, Hb⟩, H1, H2, H3, H4, H5, H6, S1, S2, S3, S4, S5, S6, S7, S8, HO⟩
  ihave H0 := (slots_give d i g0 g1 f0) $$ [Ha Hb Hr]
  · iframe
  ihave Hx := (pointsTo_share (PosShare.mem_left_op_right q)).2 $$ [Hxa Hxb]
  · isplitl [Hxa]
    · iexact Hxa
    · iexact Hxb
  isplitl [Hx Hw Hl Ho]
  · iframe
  isplitl [H0 H1 H2 H3 H4 H5 H6 Hbufs]
  · iframe
  isplitl [S1 S2 S3 S4 S5 S6 S7 S8 Hsems]
  · iframe
  iexact HO

end Cert.Proof.Bucket

end
-- ==== Proof.Launch.lean ====
module

public import proofs.«01_k».proof.Proof.Task

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)

variable {F : FTy → Type} [FloatOps F]

local notation "𝕄" => MT nD τ sig (HIx 1) (Elt F) ℕ UU ℕ

local notation "xtV" => (Memref.whole Cert.KernelIdeal.main_v0_scv : Memref Cert.KernelIdeal.sig Kind.scVector Space.hbm Cert.KernelIdeal.S64x1000000 EltTy.f32)
local notation "wV" => (Memref.whole Cert.KernelIdeal.main_arg1_scv : Memref Cert.KernelIdeal.sig Kind.scVector Space.hbm Cert.KernelIdeal.S64 EltTy.f32)
local notation "tlV" => (Memref.whole Cert.KernelIdeal.main_v2_scv : Memref Cert.KernelIdeal.sig Kind.scVector Space.hbm Cert.KernelIdeal.S4096 EltTy.f32)
local notation "oV" => (Memref.whole Cert.KernelIdeal.main_v3_scv : Memref Cert.KernelIdeal.sig Kind.scVector Space.hbm Cert.KernelIdeal.S1000000 EltTy.f32)
local notation "xb" => (Memref.whole Cert.KernelIdeal.cc0_scratch0 : Memref Cert.KernelIdeal.sig Kind.scVector Space.vmem Cert.KernelIdeal.S2x64x512 EltTy.f32)
local notation "ob" => (Memref.whole Cert.KernelIdeal.cc0_scratch1 : Memref Cert.KernelIdeal.sig Kind.scVector Space.vmem Cert.KernelIdeal.S31232 EltTy.f32)
local notation "tb" => (Memref.whole Cert.KernelIdeal.cc0_scratch2 : Memref Cert.KernelIdeal.sig Kind.scVector Space.vmem Cert.KernelIdeal.S64x128 EltTy.f32)
local notation "lb" => (Memref.whole Cert.KernelIdeal.cc0_scratch3 : Memref Cert.KernelIdeal.sig Kind.scVector Space.vmem Cert.KernelIdeal.S4096 EltTy.f32)
local notation "tob" => (Memref.whole Cert.KernelIdeal.cc0_scratch4 : Memref Cert.KernelIdeal.sig Kind.scVector Space.vmem Cert.KernelIdeal.S128 EltTy.f32)
local notation "wb" => (Memref.whole Cert.KernelIdeal.cc0_scratch5 : Memref Cert.KernelIdeal.sig Kind.scVector Space.vmem Cert.KernelIdeal.S64 EltTy.f32)
local notation "wt" => (Memref.whole Cert.KernelIdeal.cc0_scratch6 : Memref Cert.KernelIdeal.sig Kind.scVector Space.vmem Cert.KernelIdeal.S1024 EltTy.f32)

variable (m : (ℓ : Loc nD τ sig) → Buf (Elt F) ℓ) (ρ : Dev nD → PrngReg)

/-! ## The values before the call -/

/-- The transposed `x`, the weights and the last rows laid out flat, from the launch memory. -/
def xtOf (d : Dev nD) : S64x1000000.Idx → F .f32 :=
  transpose S64x1000000 [1, 0] (m ((SparseCore.T d).loc main_arg0) : S1000000x64.Idx → F .f32) transposes_S1000000x64_S64x1000000_1_0
def wOf (d : Dev nD) : S64.Idx → F .f32 := m (wLoc d)
def midOf (d : Dev nD) : S64x64.Idx → F .f32 := extractStridedSlice S64x64 ![0, 999936] (xtOf m d) slices_S64x1000000_S64x64_0_999936
def lastOf (d : Dev nD) : S4096.Idx → F .f32 := shapeCast S4096 (midOf m d) shapeCasts_S64x64_S4096

theorem lastOf_ok (d : Dev nD) : LastOf (xtOf m d) (lastOf m d) := by
  intro e he r hr
  let y : S64x64.Idx := fun | 0 => ⟨e, he⟩ | 1 => ⟨r, hr⟩
  have hy : Shape.reshapeEquiv shapeCasts_S64x64_S4096 (lIx (64 * e + r)) = y := by
    refine Shape.reshapeEquiv_eq_of_rowMajor _ ?_
    refine (Shape.rowMajor_val_two y).trans (Eq.trans ?_ (Shape.rowMajor_val_one (lIx (64 * e + r))).symm)
    show e * 64 + r = (64 * e + r) % 4096
    rw [Nat.mod_eq_of_lt (by omega)]
    omega
  refine (congrArg (midOf m d) hy).trans (congrArg (xtOf m d) (funext fun a => ?_))
  match a with
  | 0 =>
    refine Fin.ext ?_
    show 0 + e = e % 64
    rw [Nat.mod_eq_of_lt he]; omega
  | 1 =>
    refine Fin.ext ?_
    show 999936 + r = (999936 + r) % 1000000
    rw [Nat.mod_eq_of_lt (by omega)]

/-! ## What the handshakes carry -/

/-- The tile `(c, s)`'s coordinates. -/
def crd (c : Fin 2) (s : Fin 16) : grid0.Coords :=
  fun | 0 => c | 1 => s | ⟨_ + 2, h⟩ => absurd h (Nat.not_lt.2 (Nat.le_add_left _ _))

/-- A tile's share of what all tiles read. -/
def shr (c : Fin 2) (s : Fin 16) : PosShare TreeShare :=
  Transfers.dealOf (Transfers.dealOf fullShare Finset.univ c) Finset.univ s

theorem nCore_two : (K (F := F)).nCore 0 = 2 := rfl
theorem nSub_sixteen : (K (F := F)).nSub 0 = 16 := rfl

/-- Tile `(c, s)`'s piece, the result's part at `f`. -/
abbrev part (d : Dev nD) (f : S1000000.Idx → F .f32) (c : Fin 2) (s : Fin 16) : sProp 𝕄 :=
  piece d (crd c s) (shr c s) (xtOf m d) (wOf m d) (lastOf m d) f

/-- The result at the run's end. -/
abbrev outF (d : Dev nD) : S1000000.Idx → F .f32 := result (xtOf m d) (wOf m d)

def P : (K (F := F)).Pay (nD := nD) (Val := Elt F) (Name := ℕ) (U := UU) where
  st := fun q d c => match q with | 0 => bigSep Finset.univ fun s : Fin 16 => part m d (m (oLoc d)) (Fin.cast nCore_two c) s
  dn := fun q d c => match q with | 0 => bigSep Finset.univ fun s : Fin 16 => part m d (outF m d) (Fin.cast nCore_two c) s
  go := fun q d c s => match q with | 0 => part m d (m (oLoc d)) (Fin.cast nCore_two c) (Fin.cast nSub_sixteen s)
  td := fun q d c s => match q with | 0 => part m d (outF m d) (Fin.cast nCore_two c) (Fin.cast nSub_sixteen s)
  x := fun _ _ => iprop(emp)

instance P_storable : (P (F := F) m).IsStorable where
  st q d c := match q with
    | 0 => (inferInstance : BI.Storable (upEmb : UEmb _ 𝕄) (bigSep Finset.univ fun s : Fin 16 => part m d (m (oLoc d)) (Fin.cast nCore_two c) s))
  dn q d c := match q with
    | 0 => (inferInstance : BI.Storable (upEmb : UEmb _ 𝕄) (bigSep Finset.univ fun s : Fin 16 => part m d (outF m d) (Fin.cast nCore_two c) s))
  go q d c s := match q with
    | 0 => (inferInstance : BI.Storable (upEmb : UEmb _ 𝕄) (part m d (m (oLoc d)) (Fin.cast nCore_two c) (Fin.cast nSub_sixteen s)))
  td q d c s := match q with
    | 0 => (inferInstance : BI.Storable (upEmb : UEmb _ 𝕄) (part m d (outF m d) (Fin.cast nCore_two c) (Fin.cast nSub_sixteen s)))

theorem defs₀_vector (c : Fin τ.nSC) (s : Fin τ.nSub) :
    defs₀ (F := F) (.scVector c s) 0 ()
      = SparseCore.onTile hcore0 hsub0 (fun c s => cc0__body (crd c s) xtV (Memref.isWhole_whole _) wV (Memref.isWhole_whole _) tlV (Memref.isWhole_whole _) oV (Memref.isWhole_whole _)
            xb (Memref.isWhole_whole _) ob (Memref.isWhole_whole _) tb (Memref.isWhole_whole _) lb (Memref.isWhole_whole _) tob (Memref.isWhole_whole _)
            wb (Memref.isWhole_whole _) wt (Memref.isWhole_whole _) cc0_scratch7 cc0_scratch8 cc0_scoped0 cc0_scoped1 cc0_scoped2 cc0_scoped3 cc0_scoped4 cc0_scoped5) ⟨⟩ c s := rfl

theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'
  isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (crd ⟨_, hci.1⟩ ⟨_, hci.2⟩) (shr ⟨_, hci.1⟩ ⟨_, hci.2⟩) (xtOf m d) (wOf m d) (lastOf m d) (lastOf_ok m d) (m (oLoc d)) O W hO).trans
    (wp_mono frame _ _ fun _ => waits_widen)

theorem bigSep_tiles (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)

theorem vecSplit : (K (F := F)).VecSplit' (P m) 0 := by
  intro d c
  show (bigSep Finset.univ fun s : Fin 16 => part m d (m (oLoc d)) (Fin.cast nCore_two c) s) ⊢ |={Set.univ}=> iprop(
      (bigSep Finset.univ fun i : Fin ((K (F := F)).nSub 0) => part m d (m (oLoc d)) (Fin.cast nCore_two c) (Fin.cast nSub_sixteen i))
      ∗ ((bigSep Finset.univ fun i : Fin ((K (F := F)).nSub 0) => part m d (outF m d) (Fin.cast nCore_two c) (Fin.cast nSub_sixteen i))
        -∗ bigSep Finset.univ fun s : Fin 16 => part m d (outF m d) (Fin.cast nCore_two c) s))
  rw [bigSep_tiles (F := F) (part m d (m (oLoc d)) (Fin.cast nCore_two c)), bigSep_tiles (F := F) (part m d (outF m d) (Fin.cast nCore_two c))]
  iintro H
  imodintro
  isplitl [H]
  · iexact H
  iintro H
  iexact H

/-! ## The result's parts are the whole result -/

theorem outSet_disjoint (i j : grid0.Coords) (h : i ≠ j) : Disjoint (outSet i) (outSet j) := by
  have hw : wid i ≠ wid j := by
    intro e
    unfold wid at e
    have a0 : (i 0).val < 2 := (i 0).isLt
    have b0 : (j 0).val < 2 := (j 0).isLt
    refine h (funext fun a => ?_)
    match a with
    | 0 => exact Fin.ext (by omega)
    | 1 => exact Fin.ext (by omega)
  refine Finset.disjoint_left.mpr fun y hi hj => ?_
  have hi := (Finset.mem_filter.mp hi).2
  have hj := (Finset.mem_filter.mp hj).2
  have bi := base_le i
  have bj := base_le j
  have ei : base i = 31232 * wid i := by unfold base wid; omega
  have ej : base j = 31232 * wid j := by unfold base wid; omega
  omega

theorem outSet_cover (y : S1000000.Idx) : ∃ c : Fin 2, ∃ s : Fin 16, y ∈ outSet (crd c s) := by
  have hy : (y 0).val < 1000000 := (y 0).isLt
  let n : ℕ := if (y 0).val < 999424 then (y 0).val / 31232 else ((y 0).val - 999424) / 128
  have hn : n < 32 := by
    show (if (y 0).val < 999424 then (y 0).val / 31232 else ((y 0).val - 999424) / 128) < 32
    split <;> omega
  have key : wid (crd ⟨n % 2, by omega⟩ ⟨n / 2, by omega⟩) = n := by
    show 2 * (n / 2) + n % 2 = n
    omega
  have hb : base (crd ⟨n % 2, by omega⟩ ⟨n / 2, by omega⟩) = 31232 * n := by
    show 62464 * (n / 2) + 31232 * (n % 2) = 31232 * n
    omega
  refine ⟨⟨n % 2, by omega⟩, ⟨n / 2, by omega⟩, Finset.mem_filter.mpr ⟨Finset.mem_univ _, ?_⟩⟩
  rw [key, hb]
  by_cases h : (y 0).val < 999424
  · have e : n = (y 0).val / 31232 := if_pos h
    left
    omega
  · have e : n = ((y 0).val - 999424) / 128 := if_neg h
    right
    omega

theorem crd_inj {c c' : Fin 2} {s s' : Fin 16} (h : crd c s = crd c' s') : c = c' ∧ s = s' :=
  ⟨congrFun h 0, congrFun h 1⟩

theorem out_parts (d : Dev nD) (f : S1000000.Idx → F .f32) :
    (oLoc d ↦{fullShare} f : sProp 𝕄) = bigSep Finset.univ fun c : Fin 2 => bigSep Finset.univ fun s : Fin 16 => oLoc d ↦[outSet (crd c s)]{fullShare} f := by
  rw [← bigSep_univ_prod fun t : Fin 2 × Fin 16 => (oLoc d ↦[outSet (crd t.1 t.2)]{fullShare} f : sProp 𝕄),
    ← pointsTo_biUnion (ℓ := oLoc d) Finset.univ (fun t : Fin 2 × Fin 16 => outSet (crd t.1 t.2))
      (fun t _ t' _ h => outSet_disjoint _ _ fun e => h (Prod.ext (crd_inj e).1 (crd_inj e).2))]
  refine congrArg (fun I => (oLoc d ↦[I]{fullShare} f : sProp 𝕄)) (Finset.ext fun y => ?_)
  obtain ⟨c, s, h⟩ := outSet_cover y
  exact ⟨fun _ => Finset.mem_biUnion.mpr ⟨(c, s), Finset.mem_univ _, h⟩, fun _ => Finset.mem_univ _⟩

theorem shares (ℓ : Loc nD τ sig) (f : Buf (Elt F) ℓ) :
    (ℓ ↦{fullShare} f : sProp 𝕄) = bigSep Finset.univ fun c : Fin 2 => bigSep Finset.univ fun s : Fin 16 => ℓ ↦{shr c s} f := by
  rw [Transfers.pointsTo_deal (Finset.univ : Finset (Fin 2)) Finset.univ_nonempty fullShare]
  exact bigSep_congr fun c _ => Transfers.pointsTo_deal (Finset.univ : Finset (Fin 16)) Finset.univ_nonempty _

/-- All tiles' pieces together are the four arrays whole. -/
theorem parts_whole (d : Dev nD) (f : S1000000.Idx → F .f32) :
    (bigSep Finset.univ fun c : Fin 2 => bigSep Finset.univ fun s : Fin 16 => part m d f c s)
      = (iprop((xLoc d ↦{fullShare} xtOf m d) ∗ (wLoc d ↦{fullShare} wOf m d) ∗ (lLoc d ↦{fullShare} lastOf m d) ∗ oLoc d ↦{fullShare} f) : sProp 𝕄) := by
  unfold part piece
  rw [shares (xLoc d), shares (wLoc d), shares (lLoc d), out_parts]
  simp only [bigSep_sep']

/-! ## @main on the TensorCore -/

abbrev R (b : Ref sig .tc) : DevRef τ sig := Proc.devRef .tc b

abbrev opT : HloOp τ sig (Elt F) := StableHlo.unary main_arg0 main_v0
  ((transpose S64x1000000 [1, 0] · transposes_S1000000x64_S64x1000000_1_0) : (⟨S1000000x64, .f32⟩ : BufTy).Contents (Elt F) → (⟨S64x1000000, .f32⟩ : BufTy).Contents (Elt F))
abbrev opS : HloOp τ sig (Elt F) := StableHlo.unary main_v0 main_v1
  ((extractStridedSlice S64x64 ![0, 999936] · slices_S64x1000000_S64x64_0_999936) : (⟨S64x1000000, .f32⟩ : BufTy).Contents (Elt F) → (⟨S64x64, .f32⟩ : BufTy).Contents (Elt F))
abbrev opR : HloOp τ sig (Elt F) := StableHlo.reshape main_v1 main_v2 (rfl : (.f32 : EltTy) = .f32) shapeCasts_S64x64_S4096

/-- The arrays of the program, all the TensorCore's. -/
abbrev arrays : Finset (Ref sig .tc) :=
  {main_arg0, main_arg1, main_arg2, main_arg3, main_arg4, main_arg5, main_v0, main_v1, main_v2, main_v3}
abbrev held10 : Finset (DevRef τ sig) := arrays.image R

theorem R_inj : ∀ a b : Ref sig .tc, R a = R b → a = b := fun _ _ e => Proc.devRef_injective _ e

theorem held_list (d : Dev nD) (W : Valuation τ sig (Elt F)) :
    (held (SparseCore.T d) held10 W : sProp 𝕄) = bigSep arrays fun b => (SparseCore.T d).loc b ↦{fullShare} W (R b) :=
  SparseCore.bigSep_image_of_injOn (fun a _ b _ e => R_inj a b e) _

theorem arrays_split (Φ : Ref sig .tc → sProp 𝕄) :
    bigSep arrays Φ = iprop(Φ main_arg0 ∗ Φ main_arg1 ∗ Φ main_arg2 ∗ Φ main_arg3 ∗ Φ main_arg4 ∗ Φ main_arg5 ∗ Φ main_v0 ∗ Φ main_v1 ∗ Φ main_v2 ∗ Φ main_v3) := by
  unfold arrays
  repeat rw [SparseCore.bigSep_insert' (by decide)]
  rw [bigSep_singleton]

def V0 (d : Dev nD) : Valuation τ sig (Elt F) := fun b => m (d, b)
def V3 (d : Dev nD) : Valuation τ sig (Elt F) := (opR (F := F)).result ((opS (F := F)).result ((opT (F := F)).result (V0 m d)))

theorem unscoped_held (d : Dev nD) : (unscopedBufs d (fun b => m ((SparseCore.T d).loc b)) : sProp 𝕄) = held (SparseCore.T d) held10 (V0 m d) := by
  rw [held_list]
  unfold unscopedBufs
  rw [show (Finset.univ.filter fun b : Ref sig .tc => ¬ b.isScoped) = arrays by decide]
  rfl

theorem hT : (opT (F := F)).bufs ⊆ held10 := show ({R main_arg0, R main_v0} : Finset (DevRef τ sig)) ⊆ held10 by decide
theorem hS : (opS (F := F)).bufs ⊆ held10 := show ({R main_v0, R main_v1} : Finset (DevRef τ sig)) ⊆ held10 by decide
theorem hR : (opR (F := F)).bufs ⊆ held10 := show ({R main_v1, R main_v2} : Finset (DevRef τ sig)) ⊆ held10 by decide

/-- What the three operations do not write is as at the launch. -/
theorem V3_kept (d : Dev nD) (b : Ref sig .tc) (h0 : b ≠ main_v0) (h1 : b ≠ main_v1) (h2 : b ≠ main_v2) : V3 m d (R b) = m ((SparseCore.T d).loc b) := by
  unfold V3
  rw [(opR (F := F)).result_of_not_mem _ (fun h => h2 (R_inj _ _ (Finset.mem_singleton.mp h))),
    (opS (F := F)).result_of_not_mem _ (fun h => h1 (R_inj _ _ (Finset.mem_singleton.mp h))),
    (opT (F := F)).result_of_not_mem _ (fun h => h0 (R_inj _ _ (Finset.mem_singleton.mp h)))]
  rfl

theorem V1_v0 (d : Dev nD) : (opT (F := F)).result (V0 m d) (R main_v0) = xtOf m d := StableHlo.unary_result _ _ _ _ _ _
theorem V2_v1 (d : Dev nD) : (opS (F := F)).result ((opT (F := F)).result (V0 m d)) (R main_v1) = midOf m d :=
  (StableHlo.unary_result _ _ _ _ _ _).trans (congrArg (fun x => extractStridedSlice S64x64 ![0, 999936] x slices_S64x1000000_S64x64_0_999936) (V1_v0 m d))

theorem V3_v0 (d : Dev nD) : V3 m d (R main_v0) = xtOf m d := by
  unfold V3
  rw [(opR (F := F)).result_of_not_mem _ (fun h => absurd (R_inj _ _ (Finset.mem_singleton.mp h)) (by decide)),
    (opS (F := F)).result_of_not_mem _ (fun h => absurd (R_inj _ _ (Finset.mem_singleton.mp h)) (by decide)), V1_v0]
theorem V3_v2 (d : Dev nD) : V3 m d (R main_v2) = lastOf m d :=
  (StableHlo.reshape_result _ _ _ _ _ _ _).trans (congrArg (fun x => shapeCast S4096 x shapeCasts_S64x64_S4096) (V2_v1 m d))

/-- The arguments at the launch contents and the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ (oLoc d ↦{fullShare} outF m d))

theorem held_V3 (d : Dev nD) :
    (held (SparseCore.T d) held10 ((opR (F := F)).result ((opS (F := F)).result ((opT (F := F)).result (V0 m d)))) : sProp 𝕄)
      = iprop(((SparseCore.T d).loc main_arg0 ↦{fullShare} m ((SparseCore.T d).loc main_arg0)) ∗ (wLoc d ↦{fullShare} wOf m d)
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_arg4 ↦{fullShare} m ((SparseCore.T d).loc main_arg4)) ∗ ((SparseCore.T d).loc main_arg5 ↦{fullShare} m ((SparseCore.T d).loc main_arg5))
        ∗ (xLoc d ↦{fullShare} xtOf m d) ∗ ((SparseCore.T d).loc main_v1 ↦{fullShare} V3 m d (R main_v1)) ∗ (lLoc d ↦{fullShare} lastOf m d)
        ∗ (oLoc d ↦{fullShare} m (oLoc d))) := by
  show held (SparseCore.T d) held10 (V3 m d) = _
  rw [held_list, arrays_split, V3_v0, V3_v2, V3_kept m d main_arg0 (by decide) (by decide) (by decide), V3_kept m d main_arg1 (by decide) (by decide) (by decide),
    V3_kept m d main_arg2 (by decide) (by decide) (by decide), V3_kept m d main_arg3 (by decide) (by decide) (by decide),
    V3_kept m d main_arg4 (by decide) (by decide) (by decide), V3_kept m d main_arg5 (by decide) (by decide) (by decide),
    V3_kept m d main_v3 (by decide) (by decide) (by decide)]
  rfl

theorem st0_eq (d : Dev nD) : (bigSep Finset.univ fun c : Fin ((K (F := F)).nCore 0) => (P m).st 0 d c)
    = iprop((xLoc d ↦{fullShare} xtOf m d) ∗ (wLoc d ↦{fullShare} wOf m d) ∗ (lLoc d ↦{fullShare} lastOf m d) ∗ oLoc d ↦{fullShare} m (oLoc d)) :=
  parts_whole m d (m (oLoc d))
theorem dn0_eq (d : Dev nD) : (bigSep Finset.univ fun c : Fin ((K (F := F)).nCore 0) => (P m).dn 0 d c)
    = iprop((xLoc d ↦{fullShare} xtOf m d) ∗ (wLoc d ↦{fullShare} wOf m d) ∗ (lLoc d ↦{fullShare} lastOf m d) ∗ oLoc d ↦{fullShare} outF m d) :=
  parts_whole m d (outF m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := held10) hT (V := V0 m d)) $$ [Hb Hheld]
  · isplitl [Hb] <;> iassumption
  iintro ⟨Hb, Hheld⟩
  rw [wp_ret]; imodintro
  iapply (wp_hlo_within 𝒱 (SparseCore.T d) none Set.univ (op := opS) (S := held10) hS (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opR) (S := held10) hR (V := (opS (F := F)).result ((opT (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨H0, H1, H2, H3, H4, H5, Hx, Hmid, Hl, Ho⟩
  iapply ((K (F := F)).wp_run (D (F := F)) 𝒱 (EH := EH) (P := P m) κ d 0) $$ [Hst Hx H1 Hl Ho Hb H0 H2 H3 H4 H5 Hts]
  isplitr
  · iexact Hctx
  isplitl [Hst]
  · iexact Hst
  isplitl [Hx H1 Hl Ho]
  · rw [st0_eq]
    iframe
  iintro ⟨Hst, Hdn⟩
  ihave Hdn' := (Entails.of_eq (dn0_eq m d)) $$ Hdn
  icases Hdn' with ⟨Hx, H1, Hl, Ho⟩
  imodintro
  isplitl [Hst]
  · iexact Hst
  isplitr [Hb Hts]
  · isplitl [H0]
    · iexact H0
    isplitl [H1]
    · iexact H1
    iframe
  isplitl [Hb] <;> iassumption

/-! ## The run -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep (Finset.univ : Finset (Dev nD)) fun _ => iprop(emp)) = (iprop(emp) : sProp 𝕄) from bigSep_emp_const _,
    show (bigSep (Finset.univ : Finset (Thread nD τ)) fun _ => iprop(emp)) = (iprop(emp) : sProp 𝕄) from bigSep_emp_const _]
  isplitr <;> iempintro

/-- What the final memory shows on one device. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5))
  ∧ s'.mem.mem (oLoc d) = outF m d

/-- An array held whole is what the memory has there, and stays held. -/
theorem read_off (s' : Phys nD τ sig (Elt F)) (ℓ : Loc nD τ sig) (f : Buf (Elt F) ℓ) {B : sProp 𝕄} {φ : Prop}
    (h : s'.mem.mem ℓ = f → iprop(B ∗ SI s') ⊢ (⌜φ⌝ : sProp 𝕄)) : iprop(((ℓ ↦{fullShare} f) ∗ B) ∗ SI s') ⊢ (⌜φ⌝ : sProp 𝕄) := by
  iintro ⟨⟨Hp, HB⟩, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  iapply (h (funext fun i => h1 i (Finset.mem_univ i)))
  isplitl [HB] <;> iassumption

set_option maxRecDepth 16384 in
theorem hfin (d : Dev nD) (s' : Phys nD τ sig (Elt F)) : iprop(FIN m d ∗ SI s') ⊢ (⌜fq m d s'⌝ : sProp 𝕄) := by
  refine read_off s' _ _ fun h0 => read_off s' _ _ fun h1 => read_off s' _ _ fun h2 => read_off s' _ _ fun h3 => read_off s' _ _ fun h4 => read_off s' _ _ fun h5 => ?_
  iintro ⟨Ho, HSI⟩
  ihave H := (SI_pointsTo_agree (st := s') (ℓ := oLoc d) (I := Finset.univ) (q := fullShare) (f := outF m d)) $$ [HSI Ho]
  · isplitl [HSI] <;> iassumption
  icases H with %h6
  ipureintro
  exact ⟨⟨h0, h1, h2, h3, h4, h5⟩, funext fun i => h6 i (Finset.mem_univ i)⟩

/-- Every run ends with the arguments as they were, the result at its value, and every semaphore at zero. -/
def QC : PUnit × MemSt nD τ sig (Elt F) → Prop := fun r =>
  (∀ c : Dev nD, (r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5))
    ∧ r.2.mem (oLoc c) = outF m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Bucket

end
-- ==== Proof.Ref.lean ====
module

public import proofs.«01_k».proof.Defs
public import Idealize.ShloMosaic.Lib.StableHlo.Run
public import Idealize.ShloMosaic.Lib.Quiescent
public import proofs.«01_k».proof.Proof.Gen.ReferenceIdeal

@[expose] public section

noncomputable section

/-! # The reference's run

The reference is a straight line of array operations on the TensorCore. Its operations are listed once, the run is the
library's rule for such a line, and the result is named by the pieces of the plain program: the probability of each row,
the table of bucket hits, the arg-max along it, and the look-up of the bucket's mean. -/

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- The array of ones that the sigmoid uses twice. -/
def ones : FVec F S1000000 .f32 := broadcastInDim S1000000 ![] bcast_S_S1000000 (constant S_ .f32 0x3F800000#32)

/-- The probability of every row: the sigmoid of the row's product with the weights. -/
def prob (x : FVec F S1000000x64 .f32) (w : FVec F S64 .f32) : FVec F S1000000 .f32 :=
  Host.divf ones (addf ones (Host.exp (Host.negf (Host.dotGeneral dot_S1000000x64_S64_S1000000_1_0_0_n_n_n none x w))))

/-- The probabilities, one per row, repeated along the buckets. -/
def probs (p : FVec F S1000000 .f32) : FVec F S1000000x64 .f32 :=
  broadcastInDim S1000000x64 ![0, 1] bcast_S1000000x1_S1000000x64_0_1 (broadcastInDim S1000000x1 ![0] bcast_S1000000_S1000000x1_0 p)

/-- One edge per bucket, repeated along the rows. -/
def edges (e : FVec F S64 .f32) : FVec F S1000000x64 .f32 :=
  broadcastInDim S1000000x64 ![0, 1] bcast_S1x64_S1000000x64_0_1 (broadcastInDim S1x64 ![1] bcast_S64_S1x64_1 e)

/-- Where a row's probability lies in a bucket: at least its lower edge and below its upper edge. -/
def hits (p : FVec F S1000000 .f32) (bins : FVec F S65 .f32) : IVec S1000000x64 32 :=
  extui 32 (andi (cmpf .oge (probs p) (edges (extractStridedSlice S64 ![0] bins slices_S65_S64_0)))
    (cmpf .olt (probs p) (edges (extractStridedSlice S64 ![1] bins slices_S65_S64_1)))) natLt_1_32

/-- The first bucket of the greatest hit in each row. -/
def arg (h : IVec S1000000x64 32) : IVec S1000000 32 := fun j =>
  (Host.reduce2 reducer_argmax_i32_i32 h (iotaInDim S1000000x64 32 1) (constantI S_ 32 2147483648#32) (constantI S_ 32 0#32)
    reducesTo_S1000000x64_S1000000_d1 h_S_ j).2

/-- The look-up's index: a negative one counts from the end. -/
def wrap (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 64#32))) i)

/-- Whether the look-up's index lies in the table. -/
def inside (v : IVec S1000000x1 32) : IVec S1000000 1 :=
  Host.reduce IntOp.andi
    (andi (cmpi .sge v (broadcastInDim S1000000x1 ![] bcast_S_S1000000x1 (constantI S_ 32 0#32)))
      (cmpi .sle v (broadcastInDim S1000000x1 ![0, 1] bcast_S1x1_S1000000x1_0_1
        (broadcastInDim S1x1 ![1] bcast_S1_S1x1_1 (constantI S1 32 63#32)))))
    (constantI S_ 1 1#1) reducesTo_S1000000x1_S1000000_d1 h_S_

/-- The look-up: the table's entry where the index lies in it. -/
def take (mean : FVec F S64 .f32) (i : IVec S1000000 32) : FVec F S1000000 .f32 :=
  select (inside (wrap i)) (Host.gather gather_S64_S1000000x1_S1000000_n_0_n_n_0_1_1 mean (wrap i))
    (broadcastInDim S1000000 ![] bcast_S_S1000000 (constant S_ .f32 0x7FC00000#32))

/-- The reference's result. -/
def out (x : FVec F S1000000x64 .f32) (w : FVec F S64 .f32) (bins : FVec F S65 .f32) (mean : FVec F S64 .f32) :
    FVec F S1000000 .f32 :=
  take mean (arg (hits (prob x w) bins))

/-- The reference's operations in order, its two calls unfolded. -/
abbrev ops : List (HloOp τ sig (Elt F)) :=
  [ binary main_arg0 main_arg1 main_v0 (fun l r => Host.dotGeneral dot_S1000000x64_S64_S1000000_1_0_0_n_n_n none l r),
    unary main_v0 main_v1 Host.negf,
    unary main_v1 main_v2 Host.exp,
    nullary main_cst (constant S_ .f32 0x3F800000#32),
    unary main_cst main_v3 (broadcastInDim S1000000 ![] bcast_S_S1000000),
    binary main_v3 main_v2 main_v4 addf,
    nullary main_cst_0 (constant S_ .f32 0x3F800000#32),
    unary main_cst_0 main_v5 (broadcastInDim S1000000 ![] bcast_S_S1000000),
    binary main_v5 main_v4 main_v6 Host.divf,
    unary main_v6 main_v7 (broadcastInDim S1000000x1 ![0] bcast_S1000000_S1000000x1_0),
    unary main_arg2 main_v8 (extractStridedSlice S64 ![0] · slices_S65_S64_0),
    unary main_v8 main_v9 (broadcastInDim S1x64 ![1] bcast_S64_S1x64_1),
    unary main_v7 main_v10 (broadcastInDim S1000000x64 ![0, 1] bcast_S1000000x1_S1000000x64_0_1),
    unary main_v9 main_v11 (broadcastInDim S1000000x64 ![0, 1] bcast_S1x64_S1000000x64_0_1),
    binary main_v10 main_v11 main_v12 (cmpf .oge),
    unary main_v6 main_v13 (broadcastInDim S1000000x1 ![0] bcast_S1000000_S1000000x1_0),
    unary main_arg2 main_v14 (extractStridedSlice S64 ![1] · slices_S65_S64_1),
    unary main_v14 main_v15 (broadcastInDim S1x64 ![1] bcast_S64_S1x64_1),
    unary main_v13 main_v16 (broadcastInDim S1000000x64 ![0, 1] bcast_S1000000x1_S1000000x64_0_1),
    unary main_v15 main_v17 (broadcastInDim S1000000x64 ![0, 1] bcast_S1x64_S1000000x64_0_1),
    binary main_v16 main_v17 main_v18 (cmpf .olt),
    binary main_v12 main_v18 main_v19 andi,
    unary main_v19 main_v20 (extui 32 · natLt_1_32),
    TRef.nullary main_call0.v0 (iotaInDim S1000000x64 32 1),
    TRef.nullary main_call0.c (constantI S_ 32 2147483648#32),
    TRef.nullary main_call0.c_0 (constantI S_ 32 0#32),
    TRef.quaternary (.of main_v20) main_call0.v0 main_call0.c main_call0.c_0 main_call0.v1_0 (fun x y u v j => (Host.reduce2 reducer_argmax_i32_i32 x y u v reducesTo_S1000000x64_S1000000_d1 h_S_ j).1),
    TRef.quaternary (.of main_v20) main_call0.v0 main_call0.c main_call0.c_0 main_call0.v1_1 (fun x y u v j => (Host.reduce2 reducer_argmax_i32_i32 x y u v reducesTo_S1000000x64_S1000000_d1 h_S_ j).2),
    TRef.nullary main_call1.c (constantI S_ 32 0#32),
    TRef.unary main_call1.c main_call1.v0 (broadcastInDim S1000000 ![] bcast_S_S1000000),
    TRef.binary (.of main_v21) main_call1.v0 main_call1.v1 (cmpi .slt),
    TRef.nullary main_call1.c_0 (constantI S_ 32 64#32),
    TRef.unary main_call1.c_0 main_call1.v2 (broadcastInDim S1000000 ![] bcast_S_S1000000),
    TRef.binary (.of main_v21) main_call1.v2 main_call1.v3 addi,
    TRef.ternary main_call1.v1 main_call1.v3 (.of main_v21) main_call1.call0.v0 select,
    TRef.unary main_call1.call0.v0 main_call1.v5 (broadcastInDim S1000000x1 ![0] bcast_S1000000_S1000000x1_0),
    TRef.nullary main_call1.c_1 (constantI S1 32 63#32),
    TRef.nullary main_call1.c_2 (constantI S_ 32 0#32),
    TRef.unary main_call1.c_2 main_call1.v6 (broadcastInDim S1000000x1 ![] bcast_S_S1000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1000000x1 ![0, 1] bcast_S1x1_S1000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1000000x1_S1000000_d1 h_S_),
    TRef.binary (.of main_arg5) main_call1.v5 main_call1.v13 (fun x i => Host.gather gather_S64_S1000000x1_S1000000_n_0_n_n_0_1_1 x i),
    TRef.nullary main_call1.cst (constant S_ .f32 0x7FC00000#32),
    TRef.unary main_call1.cst main_call1.v14 (broadcastInDim S1000000 ![] bcast_S_S1000000),
    TRef.ternary main_call1.v12 main_call1.v13 main_call1.v14 main_call1.v15 select ]

set_option maxRecDepth 1024 in
/-- The program is that straight line. -/
theorem main_eq (c : Dev nD) : main (F := F) c = seq ops := by
  simp only [main, fn_argmax.body, fn_take.body, fn_where.body, seq, bind_assoc, pure_bind]
  rfl

/-- The first twenty-three operations leave the table of hits, and the means as they were. -/
theorem hits_eq (V : Valuation τ sig (Elt F)) :
    after (ops.take 23) V (main_v20 : DevRef τ sig)
        = hits (prob (V (main_arg0 : DevRef τ sig)) (V (main_arg1 : DevRef τ sig))) (V (main_arg2 : DevRef τ sig))
      ∧ after (ops.take 23) V (main_arg5 : DevRef τ sig) = V (main_arg5 : DevRef τ sig) := by
  simp only [ops, List.take_succ_cons, List.take_zero]
  constructor <;> after_results_simp
  rfl

/-- The next five leave the arg-max, and the means as they were. -/
theorem arg_eq (V : Valuation τ sig (Elt F)) :
    after ((ops.drop 23).take 5) V (main_v21 : DevRef τ sig) = arg (V (main_v20 : DevRef τ sig))
      ∧ after ((ops.drop 23).take 5) V (main_arg5 : DevRef τ sig) = V (main_arg5 : DevRef τ sig) := by
  simp only [ops, List.take_succ_cons, List.take_zero, List.drop_succ_cons, List.drop_zero]
  constructor <;> after_results_simp
  rfl

/-- The rest look the means up. -/
theorem take_eq (V : Valuation τ sig (Elt F)) :
    after (ops.drop 28) V (main_v22 : DevRef τ sig) = take (V (main_arg5 : DevRef τ sig)) (V (main_v21 : DevRef τ sig)) := by
  simp only [ops, List.drop_succ_cons, List.drop_zero]
  after_results_simp
  simp only [TRef.ofBuf, TRef.toBuf, cast_cast, cast_eq]
  rfl

/-- The operations leave the result at the last buffer. -/
theorem out_eq (V : Valuation τ sig (Elt F)) :
    after ops V (main_v22 : DevRef τ sig)
      = out (V (main_arg0 : DevRef τ sig)) (V (main_arg1 : DevRef τ sig)) (V (main_arg2 : DevRef τ sig))
          (V (main_arg5 : DevRef τ sig)) := by
  have h : after ops V = after (ops.drop 28) (after ((ops.drop 23).take 5) (after (ops.take 23) V)) := rfl
  rw [h, take_eq, (arg_eq _).1, (arg_eq _).2, (hits_eq V).1, (hits_eq V).2]
  rfl

/-- No operation writes an argument. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig) := by
  simp only [after_cons, after_nil]
  exact ⟨rfl, rfl, rfl, rfl, rfl, rfl⟩

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig := by
  simp only [List.forall_cons, List.Forall, nullary_bufs_sub, unary_bufs_sub, binary_bufs_sub, ternary_bufs_sub, quaternary_bufs_sub, TRef.nullary, TRef.unary, TRef.binary, TRef.ternary, TRef.quaternary, and_self]

/-- The reference's run: every buffer ends at the fold of the operations over the launch's contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's frame. -/
theorem frame : Cert.quiescent_ReferenceIdeal := by
  intro m ρ _
  exact (θ_run Cert.ReferenceIdeal.defs _ _).mono
    (fun r h => ⟨fun c => ⟨(h c main_arg0).trans (args_eq _).1, (h c main_arg1).trans (args_eq _).2.1,
      (h c main_arg2).trans (args_eq _).2.2.1, (h c main_arg3).trans (args_eq _).2.2.2.1,
      (h c main_arg4).trans (args_eq _).2.2.2.2.1, (h c main_arg5).trans (args_eq _).2.2.2.2.2⟩,
        Idealize.ShloMosaic.sem_eq_zero_of_no_sems (by decide) r.2⟩)
    (run_main (F := Ideal) m ρ)

end Cert.Proof.Ref

end
-- ==== Proof.Score.lean ====
module

public import proofs.«01_k».proof.Proof.Common
public import Idealize.ShloMosaic.PureOps.Ideal.Laws
public import Idealize.ShloMosaic.Lib.IdealHost

@[expose] public section

noncomputable section

/-! # The bucket of a score, over the extended reals

The kernel cuts 64 times the probability to a whole number and takes its low six bits; the bucket whose two edges enclose
the probability is the same one. -/

namespace Cert.Proof.Score

open Idealize.ShloMosaic Cert.Proof.Bucket

/-- The probability of a score. -/
def sig (z : EReal) : EReal := Ideal.div 1 (1 + Ideal.exp (-z))

/-- It is a real number between 0 and 1, whatever the score. -/
theorem sig_real (z : EReal) : ∃ r : ℝ, 0 ≤ r ∧ r ≤ 1 ∧ sig z = (r : EReal) := by
  unfold sig
  induction z using EReal.rec with
  | bot =>
    refine ⟨0, le_refl _, zero_le_one, ?_⟩
    rw [EReal.neg_bot, Ideal.exp_top, show (1 : EReal) + ⊤ = ⊤ from rfl, Ideal.div, if_neg (by simp)]
    simp
  | top =>
    refine ⟨1, zero_le_one, le_refl _, ?_⟩
    rw [EReal.neg_top, Ideal.exp_bot, add_zero, Ideal.div, if_neg (by simp)]
    simp
  | coe a =>
    have h : (0 : ℝ) < Real.exp (-a) := Real.exp_pos _
    have e : (1 : EReal) + Ideal.exp (-(a : EReal)) = ((1 + Real.exp (-a) : ℝ) : EReal) := by
      rw [← EReal.coe_neg, Ideal.exp_coe]; norm_cast
    refine ⟨1 / (1 + Real.exp (-a)), by positivity, ?_, ?_⟩
    · rw [div_le_one (by linarith)]; linarith
    · rw [e, Ideal.div_coe (by linarith), one_mul]

/-- Sixty-four times the probability, cut to a whole number. -/
def cut (z : EReal) : ℕ := ⌊64 * (sig z).toReal⌋₊

theorem cut_le (z : EReal) : cut z ≤ 64 := by
  obtain ⟨r, h0, h1, e⟩ := sig_real z
  unfold cut
  rw [e, EReal.toReal_coe]
  exact Nat.floor_le_of_le (by push_cast; linarith)

/-- The probability lies between the edges `k / 64` and `(k + 1) / 64` exactly when that whole number is `k`. -/
theorem between_iff (z : EReal) (k : ℕ) :
    (((k : ℝ) / 64 : ℝ) : EReal) ≤ sig z ∧ sig z < (((k + 1 : ℕ) / 64 : ℝ) : EReal) ↔ cut z = k := by
  obtain ⟨r, h0, h1, e⟩ := sig_real z
  unfold cut
  rw [e, EReal.toReal_coe, EReal.coe_le_coe_iff, EReal.coe_lt_coe_iff, Nat.floor_eq_iff (by linarith)]
  push_cast
  constructor
  · rintro ⟨a, b⟩; constructor <;> linarith
  · rintro ⟨a, b⟩; constructor <;> linarith

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
theorem ofBits_128th : Ideal.ofBits .f32 0x3C000000#32 = ((1 / 128 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- Cutting the product by 64 to a word gives that whole number. -/
theorem fptosi_sig (z : EReal) : Ideal.fptosi 32 (sig z * ((64 : ℝ) : EReal)) = BitVec.ofNat 32 (cut z) := by
  have hc := cut_le z
  obtain ⟨r, h0, h1, e⟩ := sig_real z
  have hf : ⌊r * 64⌋ = ((cut z : ℕ) : ℤ) := by
    unfold cut
    rw [e, EReal.toReal_coe, mul_comm r, ← Int.natCast_floor_eq_floor (by linarith)]
  rw [e, ← EReal.coe_mul, Ideal.fptosi, Ideal.toIntClamped_coe, if_pos (by linarith), hf, ← BitVec.ofInt_natCast]
  congr 1
  norm_num
  omega

/-- The low six bits of a word of a number up to 64. -/
theorem and_63 (n : ℕ) (h : n ≤ 64) : IntOp.andi (BitVec.ofNat 32 n) 63#32 = BitVec.ofNat 32 (n % 64) := by
  interval_cases n <;> rfl

theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem sitofp_small (n : ℕ) (h : n < 2 ^ 31) : FloatOps.sitofp (F := Ideal) .f32 (BitVec.ofNat 32 n) = ((n : ℝ) : EReal) := by
  show (((BitVec.ofNat 32 n).toInt : ℝ) : EReal) = _
  rw [toInt_small n h]; norm_cast

/-- The kernel's row: the middle of that bucket. -/
theorem bucket_eq (z : EReal) : bucket (F := Ideal) z = ((((cut z % 64 : ℕ) : ℝ) / 64 + 1 / 128 : ℝ) : EReal) := by
  have hz : (FloatOps.divf (F := Ideal) (φ := .f32) (Scalar.ofBits .f32 0x3F800000#32)
                (FloatOps.addf (Scalar.ofBits .f32 0x3F800000#32)
                  (FloatOps.exp (FloatOps.subf (Scalar.ofBits .f32 0x00000000#32) z)))) = sig z := by
    show Ideal.div (Ideal.ofBits .f32 0x3F800000#32) (Ideal.ofBits .f32 0x3F800000#32 + Ideal.exp (Ideal.ofBits .f32 0x00000000#32 - z)) = _
    rw [Ideal.ofBits_one_f32, Ideal.ofBits_zero_f32, zero_sub]; rfl
  unfold bucket
  rw [hz]
  show FloatOps.sitofp (F := Ideal) .f32 (IntOp.andi (Ideal.fptosi 32 (sig z * Ideal.ofBits .f32 0x42800000#32)) 63#32)
      * Ideal.ofBits .f32 0x3C800000#32 + Ideal.ofBits .f32 0x3C000000#32 = _
  rw [ofBits_64, ofBits_64th, ofBits_128th, fptosi_sig, and_63 _ (cut_le z), sitofp_small _ (by have := Nat.mod_lt (cut z) (show 0 < 64 by decide); omega),
    ← EReal.coe_mul, ← EReal.coe_add]
  congr 1
  ring

/-- The running sum is the sum. -/
theorem acc_eq (w x : ℕ → EReal) (k : ℕ) : acc (F := Ideal) w x k = ∑ d ∈ Finset.range k, x d * w d := by
  induction k with
  | zero => exact Ideal.ofBits_zero_f32
  | succ k ih => rw [Finset.sum_range_succ, ← ih]; rfl

/-! ## The arg-max of a row of hits -/

/-- The pair the arg-max keeps is at least the other: a greater value, or the same value and an index no greater. -/
def Ge (r p : BitVec 32 × BitVec 32) : Prop :=
  p.1.toInt < r.1.toInt ∨ p.1.toInt = r.1.toInt ∧ r.2.toInt ≤ p.2.toInt

theorem Ge.refl (p : BitVec 32 × BitVec 32) : Ge p p := .inr ⟨rfl, le_refl _⟩
theorem Ge.trans {a b c : BitVec 32 × BitVec 32} (h : Ge a b) (h' : Ge b c) : Ge a c := by
  unfold Ge at *; omega

/-- A left fold that keeps the greater of two pairs ends at one of them that is at least each. -/
theorem foldl_ge (f : BitVec 32 × BitVec 32 → BitVec 32 × BitVec 32 → BitVec 32 × BitVec 32)
    (hf : ∀ a b, f a b = a ∧ Ge a b ∨ f a b = b ∧ Ge b a) :
    ∀ (l : List (BitVec 32 × BitVec 32)) (i : BitVec 32 × BitVec 32),
      (l.foldl f i = i ∨ l.foldl f i ∈ l) ∧ Ge (l.foldl f i) i ∧ ∀ p ∈ l, Ge (l.foldl f i) p
  | [], i => ⟨.inl rfl, Ge.refl i, fun _ h => nomatch h⟩
  | b :: l, i => by
    obtain ⟨hm, hi, hl⟩ := foldl_ge f hf l (f i b)
    rw [List.foldl_cons]
    have hfi : Ge (f i b) i ∧ Ge (f i b) b ∧ (f i b = i ∨ f i b = b) := by
      rcases hf i b with ⟨e, g⟩ | ⟨e, g⟩ <;> rw [e]
      exacts [⟨Ge.refl _, g, .inl rfl⟩, ⟨g, Ge.refl _, .inr rfl⟩]
    refine ⟨?_, hi.trans hfi.1, fun p hp => ?_⟩
    · rcases hm with e | hm
      · rcases hfi.2.2 with e' | e'
        exacts [.inl (e.trans e'), .inr (by rw [e, e']; exact List.mem_cons_self ..)]
      · exact .inr (List.mem_cons_of_mem _ hm)
    · rcases List.mem_cons.1 hp with rfl | hp
      exacts [hi.trans hfi.2.1, hl p hp]

/-- The fold over a row's pairs, at most one of them a hit, the one numbered `c`: it ends at number `c`, or at 0 when `c` is
    just past the last. -/
theorem foldl_row (f : BitVec 32 × BitVec 32 → BitVec 32 × BitVec 32 → BitVec 32 × BitVec 32)
    (hf : ∀ a b, f a b = a ∧ Ge a b ∨ f a b = b ∧ Ge b a) (l : List (BitVec 32 × BitVec 32)) (g : Fin 64 → BitVec 32)
    (c : ℕ) (hc : c ≤ 64) (hm : ∀ q, q ∈ l ↔ ∃ k : Fin 64, q = (g k, BitVec.ofNat 32 k.val))
    (hg : ∀ k : Fin 64, g k = if c = k.val then 1#32 else 0#32) (i : BitVec 32 × BitVec 32) (hi : i.1.toInt < 0) :
    (l.foldl f i).2 = BitVec.ofNat 32 (c % 64) := by
  have t0 : (0#32 : BitVec 32).toInt = 0 := by decide
  have t1 : (1#32 : BitVec 32).toInt = 1 := by decide
  have hg' (k : Fin 64) : (g k).toInt = if c = k.val then 1 else 0 := by
    rw [hg]; split
    exacts [t1, t0]
  obtain ⟨hr, -, hl⟩ := foldl_ge f hf l i
  have hl' (k : Fin 64) := hl _ ((hm _).2 ⟨k, rfl⟩)
  generalize l.foldl f i = r at hr hl'
  have hr' : ∃ k : Fin 64, r = (g k, BitVec.ofNat 32 k.val) := by
    rcases hr with rfl | hr
    · exfalso
      rcases hl' 0 with h | ⟨h, -⟩
      all_goals
        have h' : (g 0).toInt ≤ r.1.toInt := h.le
        rw [hg'] at h'
        split at h' <;> omega
    · exact (hm _).1 hr
  obtain ⟨k, rfl⟩ := hr'
  show BitVec.ofNat 32 k.val = _
  congr 1
  have hk := k.isLt
  have ht (a : Fin 64) : (BitVec.ofNat 32 a.val).toInt = (a.val : ℤ) := toInt_small _ (by omega)
  by_cases h64 : c = 64
  · have h : (g k).toInt > _ ∨ _ := hl' ⟨0, by omega⟩
    simp only [hg', ht, if_neg (show ¬ c = k.val by omega), if_neg (show ¬ c = 0 by omega)] at h
    omega
  · by_cases hck : c = k.val
    · omega
    · have h : (g k).toInt > _ ∨ _ := hl' ⟨c, by omega⟩
      simp only [hg', ht, if_neg hck, if_true] at h
      omega

end Cert.Proof.Score

end
-- ==== Proof.Arg.lean ====
module

public import proofs.«01_k».proof.Proof.Ref
public import proofs.«01_k».proof.Proof.Score
public import Idealize.ShloMosaic.Lib.Affine
public import Idealize.ShloMosaic.Lib.StableHlo.Predicate

@[expose] public section

noncomputable section

/-! # The reference's arg-max along a row

Its body keeps one of two pairs, so the fold ends at a pair that is at least every pair of the row; a row of hits has at most
one greater than the rest. -/

namespace Cert.Proof.Value

open Cert.ReferenceIdeal Cert.ReferenceIdeal.Gen
open Idealize.ShloMosaic Idealize.ShloMosaic.StableHlo.Predicate
open Cert.Proof.Score Cert.Proof.Ref

theorem eq_zero_of_ne_one {b : BitVec 1} (h : ¬ b = 1#1) : b = 0#1 := (BitVec.eq_zero_or_eq_one b).resolve_right h

/-- The arg-max's body returns one of its two pairs, one at least the other. -/
theorem reducer_ge (a b : BitVec 32 × BitVec 32) :
    reducer_argmax_i32_i32 a b = a ∧ Ge a b ∨ reducer_argmax_i32_i32 a b = b ∧ Ge b a := by
  obtain ⟨a1, a2⟩ := a
  obtain ⟨b1, b2⟩ := b
  have hn : IntOp.cmpi .ne a1 a1 = 0#1 := by simp [IntOp.cmpi]
  have hred : reducer_argmax_i32_i32 (a1, a2) (b1, b2)
      = (Scalar.select (IntOp.ori (IntOp.cmpi .sgt a1 b1) (IntOp.cmpi .ne a1 a1)) a1 b1,
         Scalar.select (IntOp.ori (IntOp.ori (IntOp.cmpi .sgt a1 b1) (IntOp.cmpi .ne a1 a1))
            (IntOp.andi (IntOp.cmpi .eq a1 b1) (IntOp.cmpi .slt a2 b2))) a2 b2) := rfl
  rw [hred, hn]
  rcases lt_trichotomy a1.toInt b1.toInt with hlt | heq | hgt
  · right
    have h1 : IntOp.cmpi .sgt a1 b1 = 0#1 := eq_zero_of_ne_one fun e => by rw [IntOp.cmpi_sgt] at e; omega
    have h2 : IntOp.cmpi .eq a1 b1 = 0#1 := eq_zero_of_ne_one fun e => by rw [IntOp.cmpi_eq] at e; subst e; omega
    rw [h1, h2]
    refine ⟨?_, .inl hlt⟩
    rcases BitVec.eq_zero_or_eq_one (IntOp.cmpi .slt a2 b2) with e | e <;> rw [e] <;> rfl
  · have e1 : a1 = b1 := BitVec.eq_of_toInt_eq heq
    subst e1
    have h1 : IntOp.cmpi .sgt a1 a1 = 0#1 := eq_zero_of_ne_one fun e => by rw [IntOp.cmpi_sgt] at e; omega
    have h2 : IntOp.cmpi .eq a1 a1 = 1#1 := by simp [IntOp.cmpi]
    rw [h1, h2]
    by_cases hs : a2.toInt < b2.toInt
    · left
      rw [IntOp.cmpi_slt.2 hs]
      exact ⟨rfl, .inr ⟨rfl, by simpa using hs.le⟩⟩
    · right
      rw [eq_zero_of_ne_one (fun e => hs (IntOp.cmpi_slt.1 e))]
      exact ⟨rfl, .inr ⟨rfl, by simpa using hs⟩⟩
  · left
    have h1 : IntOp.cmpi .sgt a1 b1 = 1#1 := IntOp.cmpi_sgt.2 hgt
    have h2 : IntOp.cmpi .eq a1 b1 = 0#1 := eq_zero_of_ne_one fun e => by rw [IntOp.cmpi_eq] at e; subst e; omega
    rw [h1, h2]
    refine ⟨?_, .inl hgt⟩
    rcases BitVec.eq_zero_or_eq_one (IntOp.cmpi .slt a2 b2) with e | e <;> rw [e] <;> rfl

/-- The least word, the arg-max's initial value, is negative. -/
theorem least_lt : (2147483648#32 : BitVec 32).toInt < 0 := by decide

/-- A member of the list that an arg-max folds over: an element of the fiber. -/
theorem mem_fiber_iff {s t : Shape} {axes : List (Fin s.rank)} {α β : Type} (x : s.Idx → α) (y : s.Idx → β)
    (h : s.ReducesTo axes t) (j : t.Idx) (q : α × β) :
    q ∈ Host.argReduceFiber x y h j ↔ ∃ i, h.drop i = j ∧ q = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- The pairs of a row of a table: each column's entry with its number. -/
theorem mem_row {n m : ℕ} (h : (⟨2, ![n, m]⟩ : Shape).ReducesTo [1] ⟨1, ![n]⟩) (v : IVec ⟨2, ![n, m]⟩ 32) (p : Fin n)
    (q : BitVec 32 × BitVec 32) :
    q ∈ Host.argReduceFiber v (iotaInDim ⟨2, ![n, m]⟩ 32 1) h (Shape.Idx.ofFin p)
      ↔ ∃ k : Fin m, q = (v (ij p k), BitVec.ofNat 32 k.val) := by
  have hd (i : (⟨2, ![n, m]⟩ : Shape).Idx) : (h.drop i 0).val = (i 0).val := rfl
  rw [mem_fiber_iff]
  constructor
  · rintro ⟨i, hi, rfl⟩
    have h0 : i 0 = p := Fin.ext ((hd i).symm.trans (congrArg Fin.val (congrFun hi 0)))
    have e : i = ij p (i 1) := funext fun | ⟨0, _⟩ => h0 | ⟨1, _⟩ => rfl
    exact ⟨i 1, Prod.ext (congrArg v e) rfl⟩
  · rintro ⟨k, rfl⟩
    exact ⟨ij p k, funext fun | ⟨0, _⟩ => Fin.ext (hd _), rfl⟩

/-- The fold from any negative initial value. -/
theorem reduce_row {n : ℕ} (h : (⟨2, ![n, 64]⟩ : Shape).ReducesTo [1] ⟨1, ![n]⟩) (hu : 0 < S_.numel) (v : IVec ⟨2, ![n, 64]⟩ 32)
    (a : BitVec 32) (ha : a.toInt < 0) (p : Fin n) (c : ℕ) (hc : c ≤ 64)
    (hv : ∀ k : Fin 64, v (ij p k) = if c = k.val then 1#32 else 0#32) :
    (Host.reduce2 reducer_argmax_i32_i32 v (iotaInDim ⟨2, ![n, 64]⟩ 32 1) (constantI S_ 32 a) (constantI S_ 32 0#32) h hu
      (Shape.Idx.ofFin p)).2 = BitVec.ofNat 32 (c % 64) := by
  rw [Host.reduce2_eq_foldl_fiber]
  exact foldl_row reducer_argmax_i32_i32 reducer_ge _ (fun k => v (ij p k)) c hc (mem_row h v p) hv (a, 0#32) ha

theorem arg_fun (v : IVec S1000000x64 32) : arg v = fun j => (Host.reduce2 reducer_argmax_i32_i32 v (iotaInDim S1000000x64 32 1)
    (constantI S_ 32 2147483648#32) (constantI S_ 32 0#32) reducesTo_S1000000x64_S1000000_d1 h_S_ j).2 := rfl

/-- The arg-max of a row with a hit at most in bucket `c`, where `c` may be 64, just past the last. -/
theorem arg_row (v : IVec S1000000x64 32) (p : Fin 1000000) (c : ℕ) (hc : c ≤ 64)
    (hv : ∀ k : Fin 64, v (ij p k) = if c = k.val then 1#32 else 0#32) :
    arg v (Shape.Idx.ofFin p) = BitVec.ofNat 32 (c % 64) :=
  (congrFun (arg_fun v) _).trans (reduce_row reducesTo_S1000000x64_S1000000_d1 h_S_ v 2147483648#32 least_lt p c hc hv)

end Cert.Proof.Value

end
-- ==== Proof.Value.lean ====
module

public import proofs.«01_k».proof.Proof.Launch
public import proofs.«01_k».proof.Proof.Ref
public import proofs.«01_k».proof.Proof.Arg
public import proofs.«01_k».proof.Pre_even_bins
public import Idealize.ShloMosaic.Lib.ReduceAll
public import Idealize.ShloMosaic.Lib.Affine
public import Idealize.ShloMosaic.Lib.StableHlo.Predicate
public import Idealize.ShloMosaic.Lib.Pipeline.Value

@[expose] public section

noncomputable section

/-! # The kernel's result is the reference's

Row by row: the sums are the same sum, the reference's hits single out one bucket (none when the probability is exactly 1,
and then its arg-max is bucket 0), and the mean of that bucket is the kernel's row. -/

namespace Cert.Proof.Value

open Cert.ReferenceIdeal Cert.ReferenceIdeal.Gen
open Idealize.ShloMosaic Idealize.ShloMosaic.StableHlo.Predicate
open Cert.Proof.Bucket (bucket acc xIx wIx colsOf outOf rowAt result outF xtOf wOf)
open Cert.Proof.Score Cert.Proof.Ref

/-- The precondition's shape relations. -/
theorem pre_facts : Cert.Pre_even_bins.Facts where
  bcast_S_S65 := by decide
  reducesTo_S65_S_d0 := by decide
  h_S_ := by decide
  slices_S65_S64_0 := by decide
  bcast_S_S64 := by decide
  reducesTo_S64_S_d0 := by decide

/-! ## What the precondition says -/

/-- The edges are the multiples of a 64th, and the means the middles between them. -/
def Even (bins : FVec Ideal S65 .f32) (mean : FVec Ideal S64 .f32) : Prop :=
  (∀ k : Fin 65, bins (Shape.Idx.ofFin k) = (((k.val : ℝ) / 64 : ℝ) : EReal))
  ∧ ∀ k : Fin 64, mean (Shape.Idx.ofFin k) = (((k.val : ℝ) / 64 + 1 / 128 : ℝ) : EReal)

theorem cmp_oeq {x y : EReal} (h : FloatOps.cmpf (F := Ideal) (φ := .f32) .oeq x y = 1#1) : x = y := by
  rw [Ideal.cmpf_def] at h
  exact of_decide_eq_true ((ofBool_eq_one_iff _).1 h)

instance : Subsingleton Cert.Pre_even_bins.S_.Idx := ⟨fun a b => funext fun i => i.elim0⟩

theorem even_of_pre (a0 : FVec Ideal S1000000x64 .f32) (a1 : FVec Ideal S64 .f32) (bins : FVec Ideal S65 .f32)
    (a3 a4 mean : FVec Ideal S64 .f32)
    (h : @Cert.Pre_even_bins.fn pre_facts Ideal _ a0 a1 bins a3 a4 mean = fun _ => 1#1) : Even bins mean := by
  obtain ⟨h1, h2⟩ := IntOp.andi_eq_one.1 (congrFun h (fun i => i.elim0))
  constructor
  · intro k
    have e := Host.reduce_andi_all _ _ _ _ _ h1 (Shape.Idx.ofFin k)
    refine (cmp_oeq e).trans ?_
    show FloatOps.sitofp (F := Ideal) .f32 (BitVec.ofNat 32 k.val) * Ideal.ofBits .f32 0x3C800000#32 = _
    rw [sitofp_small _ (by omega), ofBits_64th, ← EReal.coe_mul]
    congr 1; ring
  · intro k
    have e := Host.reduce_andi_all _ _ _ _ _ h2 (Shape.Idx.ofFin k)
    refine (cmp_oeq e).trans ?_
    show (FloatOps.sitofp (F := Ideal) .f32 (BitVec.ofNat 32 (0 + k.val)) + Ideal.ofBits .f32 0x3F000000#32)
      * Ideal.ofBits .f32 0x3C800000#32 = _
    rw [zero_add, sitofp_small _ (by omega), ofBits_64th, ofBits_half, ← EReal.coe_add, ← EReal.coe_mul]
    congr 1; ring

/-! ## The probability of a row -/

/-- A row's score: its product with the weights. -/
def score (x : FVec Ideal S1000000x64 .f32) (w : FVec Ideal S64 .f32) (p : Fin 1000000) : EReal :=
  ∑ d : Fin 64, x (ij p d) * w (Shape.Idx.ofFin d)

theorem dot_eq (x : FVec Ideal S1000000x64 .f32) (w : FVec Ideal S64 .f32) (p : Fin 1000000) :
    Host.dotGeneral dot_S1000000x64_S64_S1000000_1_0_0_n_n_n none x w (Shape.Idx.ofFin p) = score x w p := by
  simp only [Host.dotGeneral]
  rw [Ideal.dotGeneral_apply]
  let e : Fin 64 ≃ (dot_S1000000x64_S64_S1000000_1_0_0_n_n_n).contr.Idx :=
    ⟨fun d => fun | ⟨0, _⟩ => d, fun k => k ⟨0, by decide⟩, fun _ => rfl, fun k => funext fun | ⟨0, _⟩ => rfl⟩
  refine (Equiv.sum_comp e _).symm.trans (Finset.sum_congr rfl fun d _ => ?_)
  congr 1
  · exact congrArg x (funext fun | ⟨0, _⟩ => rfl | ⟨1, _⟩ => rfl)
  · exact congrArg w (funext fun | ⟨0, _⟩ => rfl)

theorem prob_eq (x : FVec Ideal S1000000x64 .f32) (w : FVec Ideal S64 .f32) (p : Fin 1000000) :
    prob x w (Shape.Idx.ofFin p) = sig (score x w p) := by
  show Ideal.div (Ideal.ofBits .f32 0x3F800000#32) (Ideal.ofBits .f32 0x3F800000#32
    + Ideal.exp (-(Host.dotGeneral dot_S1000000x64_S64_S1000000_1_0_0_n_n_n none x w (Shape.Idx.ofFin p)))) = _
  rw [dot_eq, Ideal.ofBits_one_f32]; rfl

/-! ## The hits of a row -/

theorem hits_one (x : FVec Ideal S1000000x64 .f32) (w : FVec Ideal S64 .f32) (bins : FVec Ideal S65 .f32)
    (mean : FVec Ideal S64 .f32) (h : Even bins mean) (p : Fin 1000000) (k : Fin 64) :
    hits (prob x w) bins (ij p k) = if cut (score x w p) = k.val then 1#32 else 0#32 := by
  have e0 : edges (extractStridedSlice S64 ![0] bins slices_S65_S64_0) (ij p k) = (((k.val : ℝ) / 64 : ℝ) : EReal) := by
    unfold edges
    refine (bcast_cols _ _ _ _ _).trans ((extractStridedSlice_apply (s := S65) (t := S64) ![0] bins slices_S65_S64_0 (Shape.Idx.ofFin k)
      (Shape.Idx.ofFin ⟨k.val, by omega⟩) (fun | ⟨0, _⟩ => (Nat.zero_add k.val).symm)).trans ?_)
    exact h.1 _
  have e1 : edges (extractStridedSlice S64 ![1] bins slices_S65_S64_1) (ij p k) = ((((k.val + 1 : ℕ) : ℝ) / 64 : ℝ) : EReal) := by
    unfold edges
    refine (bcast_cols _ _ _ _ _).trans ((extractStridedSlice_apply (s := S65) (t := S64) ![1] bins slices_S65_S64_1 (Shape.Idx.ofFin k)
      (Shape.Idx.ofFin ⟨k.val + 1, by omega⟩) (fun | ⟨0, _⟩ => Nat.add_comm k.val 1)).trans ?_)
    exact h.1 _
  have ep : probs (prob x w) (ij p k) = sig (score x w p) := by
    unfold probs; rw [bcast_rows, prob_eq]
  have hb := between_iff (score x w p) k.val
  show (IntOp.andi (FloatOps.cmpf (F := Ideal) (φ := .f32) .oge (probs (prob x w) (ij p k)) (edges (extractStridedSlice S64 ![0] bins slices_S65_S64_0) (ij p k)))
    (FloatOps.cmpf (F := Ideal) (φ := .f32) .olt (probs (prob x w) (ij p k)) (edges (extractStridedSlice S64 ![1] bins slices_S65_S64_1) (ij p k)))).setWidth 32 = _
  rw [e0, e1, ep, Ideal.cmpf_def, Ideal.cmpf_def]
  simp only [Ideal.cmp]
  by_cases hc : cut (score x w p) = k.val
  · rw [if_pos hc, decide_eq_true (hb.2 hc).1, decide_eq_true (hb.2 hc).2]; rfl
  · rw [if_neg hc]
    by_cases hl : (((k.val : ℝ) / 64 : ℝ) : EReal) ≤ sig (score x w p)
    · rw [decide_eq_true hl, decide_eq_false (fun h' => hc (hb.1 ⟨hl, h'⟩))]; rfl
    · rw [decide_eq_false hl]
      cases decide (sig (score x w p) < ((((k.val + 1 : ℕ) : ℝ) / 64 : ℝ) : EReal)) <;> rfl

/-! ## The look-up -/

theorem wrap_row (i : IVec S1000000 32) (p : Fin 1000000) (c : ℕ) (hc : c < 64) (h : i (Shape.Idx.ofFin p) = BitVec.ofNat 32 c) :
    wrap i (ixP p) = BitVec.ofNat 32 c := by
  unfold wrap
  rw [bcast_col1]
  show Scalar.select (IntOp.cmpi .slt (i (Shape.Idx.ofFin p)) 0#32) (IntOp.addi (i (Shape.Idx.ofFin p)) 64#32) (i (Shape.Idx.ofFin p)) = _
  rw [h]
  interval_cases c <;> rfl

theorem inside_row (v : IVec S1000000x1 32) (hv : ∀ p, ∃ c < 64, v (ixP p) = BitVec.ofNat 32 c) (j : S1000000.Idx) : inside v j = 1#1 := by
  unfold inside
  refine Host.reduce_andi_one _ _ _ _ _ rfl fun i => ?_
  have hi : i = ixP (i 0) := by
    funext b
    match b with
    | ⟨0, _⟩ => rfl
    | ⟨1, _⟩ => exact Subsingleton.elim (α := Fin 1) _ _
  obtain ⟨c, hc, e⟩ := hv (i 0)
  have e' : v i = BitVec.ofNat 32 c := (congrArg v hi).trans e
  show IntOp.andi (IntOp.cmpi .sge (v i) 0#32) (IntOp.cmpi .sle (v i) 63#32) = 1#1
  rw [e']
  interval_cases c <;> rfl

theorem select_one {s : Shape} {α : Type} (c : IVec s 1) (a b : s.Idx → α) (j : s.Idx) (h : c j = 1#1) : select c a b j = a j := by
  show Scalar.select (c j) (a j) (b j) = a j
  rw [h]; rfl

theorem take_row (mean : FVec Ideal S64 .f32) (i : IVec S1000000 32) (f : Fin 1000000 → Fin 64)
    (h : ∀ p, i (Shape.Idx.ofFin p) = BitVec.ofNat 32 (f p).val) (p : Fin 1000000) :
    take mean i (Shape.Idx.ofFin p) = mean (Shape.Idx.ofFin (f p)) := by
  have hw (p) := wrap_row i p (f p).val (f p).isLt (h p)
  unfold take
  rw [select_one _ _ _ _ (inside_row _ (fun p => ⟨(f p).val, (f p).isLt, hw p⟩) _), gather_take _ rfl rfl rfl rfl _ _ _ (by decide)]
  refine congrArg mean (congrArg Shape.Idx.ofFin (Fin.ext ?_))
  show min (wrap i (ixP p)).toInt.toNat 63 = (f p).val
  rw [hw, toInt_small _ (by omega)]
  have := (f p).isLt
  omega

/-- The reference's row. -/
theorem out_row (x : FVec Ideal S1000000x64 .f32) (w : FVec Ideal S64 .f32) (bins : FVec Ideal S65 .f32)
    (mean : FVec Ideal S64 .f32) (h : Even bins mean) (p : Fin 1000000) :
    out x w bins mean (Shape.Idx.ofFin p) = bucket (F := Ideal) (score x w p) := by
  unfold out
  rw [take_row mean _ (fun p => ⟨cut (score x w p) % 64, Nat.mod_lt _ (by decide)⟩)
    (fun p => arg_row _ p _ (cut_le _) (hits_one x w bins mean h p)), h.2, bucket_eq]

/-! ## The kernel's row -/

theorem acc_score (x : FVec Ideal S1000000x64 .f32) (w : FVec Ideal S64 .f32) (X : Cert.KernelIdeal.S64x1000000.Idx → EReal)
    (hX : ∀ (d : Fin 64) (p : Fin 1000000), X (xIx d.val p.val) = x (ij p d)) (p : Fin 1000000) :
    acc (F := Ideal) (fun e => w (wIx e)) (fun d => colsOf (F := Ideal) X d p.val) 64 = score x w p := by
  rw [acc_eq, score, ← Fin.sum_univ_eq_sum_range (fun d => colsOf (F := Ideal) X d p.val * w (wIx d)) 64]
  refine Finset.sum_congr rfl fun d _ => ?_
  show X (xIx d.val p.val) * _ = _
  rw [hX]
  refine congrArg (x (ij p d) * ·) (congrArg w ?_)
  funext b
  match b with
  | ⟨0, _⟩ => exact Fin.ext (Nat.mod_eq_of_lt d.isLt)

theorem kernel_row (x : FVec Ideal S1000000x64 .f32) (w : FVec Ideal S64 .f32) (X : Cert.KernelIdeal.S64x1000000.Idx → EReal)
    (hX : ∀ (d : Fin 64) (p : Fin 1000000), X (xIx d.val p.val) = x (ij p d)) (p : Fin 1000000) :
    result (F := Ideal) X w (Shape.Idx.ofFin p) = bucket (F := Ideal) (score x w p) :=
  congrArg (bucket (F := Ideal)) (acc_score x w X hX p)

/-- The two results are equal when the edges and means are even. -/
theorem outF_eq (m : (ℓ : Loc Cert.KernelIdeal.nD Cert.KernelIdeal.τ Cert.KernelIdeal.sig) → Buf (Elt Ideal) ℓ)
    (c : Dev Cert.KernelIdeal.nD) (x : FVec Ideal S1000000x64 .f32) (w : FVec Ideal S64 .f32) (bins : FVec Ideal S65 .f32)
    (mean : FVec Ideal S64 .f32) (hx : m ((SparseCore.T c).loc Cert.KernelIdeal.main_arg0) = x)
    (hw : m ((SparseCore.T c).loc Cert.KernelIdeal.main_arg1) = w) (h : Even bins mean) :
    outF (F := Ideal) m c = out x w bins mean := by
  have hX (d : Fin 64) (p : Fin 1000000) : xtOf (F := Ideal) m c (xIx d.val p.val) = x (ij p d) := by
    unfold xtOf
    refine (transpose_apply _ _ _ _ (ij p d) (fun
      | ⟨0, _⟩ => (Nat.mod_eq_of_lt d.isLt).symm
      | ⟨1, _⟩ => (Nat.mod_eq_of_lt p.isLt).symm)).trans (congrFun hx _)
  have hW : wOf (F := Ideal) m c = w := hw
  have hrow (p : Fin 1000000) : outF (F := Ideal) m c (Shape.Idx.ofFin p) = out x w bins mean (Shape.Idx.ofFin p) := by
    rw [out_row x w bins mean h, ← kernel_row x w (xtOf (F := Ideal) m c) hX, ← hW]
  funext j
  have hj : j = Shape.Idx.ofFin (j 0 : Fin 1000000) := Shape.Idx.eq_ofFin j
  exact (congrArg _ hj).trans ((hrow (j 0)).trans (congrArg (out x w bins mean) hj.symm))

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Launch
public import proofs.«01_k».proof.Proof.Ref
public import proofs.«01_k».proof.Proof.Value

@[expose] public section

noncomputable section

namespace Cert.Proof

open Idealize.ShloMosaic Idealize.SL.Sem

/-- The kernel's frame: the run, its values dropped. -/
theorem frame_kernel : Cert.quiescent_Kernel := fun m ρ _ =>
  (θ_run Cert.KernelIdeal.defs _ _).mono (fun _ h => ⟨fun c => (h.1 c).1, h.2⟩) (Bucket.run_main (F := Bits) m ρ)

/-- The idealized kernel's frame. -/
theorem frame_kernelIdeal : Cert.quiescent_KernelIdeal := fun m ρ _ =>
  (θ_run Cert.KernelIdeal.defs _ _).mono (fun _ h => ⟨fun c => (h.1 c).1, h.2⟩) (Bucket.run_main (F := Ideal) m ρ)

/-- The value claim: both runs end at the kernel's function of the arguments. -/
theorem algebraic :
    Cert.algebraic_KernelIdeal_ReferenceIdeal_pre_even_bins (hKernelIdeal := Cert.KernelIdeal.Gen.facts)
      (hReferenceIdeal := Cert.ReferenceIdeal.Gen.facts) (hPre_even_bins := Value.pre_facts) := by
  intro m g m' g' hpre hag
  refine ⟨fun c => Bucket.outF (F := Ideal) m c,
    (θ_run Cert.KernelIdeal.defs _ _).mono (fun _ h c => ⟨(h.1 c).2, (h.1 c).1⟩) (Bucket.run_main (F := Ideal) m g),
    (θ_run Cert.ReferenceIdeal.defs _ _).mono (fun r h c => ⟨?_, ?_⟩) (Ref.run_main (F := Ideal) m' g')⟩
  · refine (h c Cert.ReferenceIdeal.main_v22).trans ((Ref.out_eq _).trans ?_)
    have hag := hag c
    refine (Value.outF_eq m c _ _ _ _ hag.1.symm hag.2.1.symm ?_).symm
    have he := Value.even_of_pre _ _ _ _ _ _ (hpre c)
    rw [← hag.2.2.1, ← hag.2.2.2.2.2] at he
    exact he
  · exact ⟨(h c Cert.ReferenceIdeal.main_arg0).trans (Ref.args_eq _).1, (h c Cert.ReferenceIdeal.main_arg1).trans (Ref.args_eq _).2.1,
      (h c Cert.ReferenceIdeal.main_arg2).trans (Ref.args_eq _).2.2.1, (h c Cert.ReferenceIdeal.main_arg3).trans (Ref.args_eq _).2.2.2.1,
      (h c Cert.ReferenceIdeal.main_arg4).trans (Ref.args_eq _).2.2.2.2.1, (h c Cert.ReferenceIdeal.main_arg5).trans (Ref.args_eq _).2.2.2.2.2⟩

/-- The claims. -/
theorem claim : Cert.Claim :=
  ⟨Cert.Kernel.Gen.facts, Cert.KernelIdeal.Gen.facts, Cert.ReferenceIdeal.Gen.facts, Value.pre_facts,
    frame_kernel, frame_kernelIdeal, fun m ρ _ => frame_kernelIdeal m ρ trivial,
    Ref.frame, fun m ρ _ => Ref.frame m ρ trivial, trivial, algebraic⟩

end Cert.Proof

end
